-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![6144, 2048]⟩ ⟨2, ![6144, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![6144, 2048]⟩ ⟨2, ![6144, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x2048 : Shape := ⟨2, ![6144, 2048]⟩
abbrev S2048 : Shape := ⟨1, ![2048]⟩
abbrev S1x2048 : Shape := ⟨2, ![1, 2048]⟩
abbrev S1x6144 : Shape := ⟨2, ![1, 6144]⟩
abbrev S3x1024x2048 : Shape := ⟨3, ![3, 1024, 2048]⟩
abbrev S2x1024x2048 : Shape := ⟨3, ![2, 1024, 2048]⟩
abbrev S6144x1 : Shape := ⟨2, ![6144, 1]⟩
abbrev S3x1x6144 : Shape := ⟨3, ![3, 1, 6144]⟩
abbrev S3 : Shape := ⟨1, ![3]⟩
abbrev S2 : Shape := ⟨1, ![2]⟩
abbrev S3x3 : Shape := ⟨2, ![3, 3]⟩
abbrev S_ : Shape := ⟨0, ![]⟩
abbrev S1x1 : Shape := ⟨2, ![1, 1]⟩
abbrev S1 : Shape := ⟨1, ![1]⟩
abbrev S1x1024x2048 : Shape := ⟨3, ![1, 1024, 2048]⟩
abbrev S1024x2048 : Shape := ⟨2, ![1024, 2048]⟩
abbrev S1024 : Shape := ⟨1, ![1024]⟩
abbrev S1024x1 : Shape := ⟨2, ![1024, 1]⟩
abbrev S2048x1 : Shape := ⟨2, ![2048, 1]⟩
abbrev S1x1x2048 : Shape := ⟨3, ![1, 1, 2048]⟩

abbrev nBuf : Space → Nat
  | .hbm => 6
  | .vmem => 11
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S1x2048, .f32⟩
  | .hbm, ⟨3, _⟩ => ⟨S6144x2048, .bf16⟩
  | .hbm, ⟨4, _⟩ => ⟨S1x6144, .f32⟩
  | .hbm, ⟨5, _⟩ => ⟨S6144x2048, .bf16⟩
  | .local _ .vmem, ⟨0, _⟩ => ⟨S1x2048, .f32⟩
  | .local _ .vmem, ⟨1, _⟩ => ⟨S1x6144, .f32⟩
  | .local _ .vmem, ⟨2, _⟩ => ⟨S3x1024x2048, .f32⟩
  | .local _ .vmem, ⟨3, _⟩ => ⟨S2x1024x2048, .bf16⟩
  | .local _ .vmem, ⟨4, _⟩ => ⟨S6144x1, .f32⟩
  | .local _ .vmem, ⟨5, _⟩ => ⟨S1x6144, .f32⟩
  | .local _ .vmem, ⟨6, _⟩ => ⟨S3x1x6144, .f32⟩
  | .local _ .vmem, ⟨7, _⟩ => ⟨S1x6144, .f32⟩
  | .local _ .vmem, ⟨8, _⟩ => ⟨S3x1024x2048, .bf16⟩
  | .local _ .vmem, ⟨9, _⟩ => ⟨S2x1024x2048, .bf16⟩
  | .local _ .vmem, ⟨10, _⟩ => ⟨S6144x1, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc1_stg0_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc0_sem0_0 : DmaSem sig := 0
abbrev cc0_sem1_0 : DmaSem sig := 1
abbrev cc1_sem0_0 : DmaSem sig := 25
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v92 : BitVec 32 := Scalar.addi v2 c1_i32_80
  let c4_i32_81 : BitVec 32 := 4#32
  let v93 : BitVec 32 := Scalar.remsi v92 c4_i32_81
  let c1_i32_87 : BitVec 32 := 1#32
  let v94 : BitVec 32 := Scalar.muli v93 c1_i32_87
  let v95 : BitVec 32 := Scalar.addi c0_i32_88 v94
  v95.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v103 : BitVec 32 := Scalar.addi v2 c2_i32_93
  let c4_i32_94 : BitVec 32 := 4#32
  let v104 : BitVec 32 := Scalar.remsi v103 c4_i32_94
  let c1_i32_100 : BitVec 32 := 1#32
  let v105 : BitVec 32 := Scalar.muli v104 c1_i32_100
  let v106 : BitVec 32 := Scalar.addi c0_i32_101 v105
  v106.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v114 : BitVec 32 := Scalar.addi v2 c3_i32_106
  let c4_i32_107 : BitVec 32 := 4#32
  let v115 : BitVec 32 := Scalar.remsi v114 c4_i32_107
  let c1_i32_113 : BitVec 32 := 1#32
  let v116 : BitVec 32 := Scalar.muli v115 c1_i32_113
  let v117 : BitVec 32 := Scalar.addi c0_i32_114 v116
  v117.toNat
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v198 : BitVec 32 := Scalar.addi v2 c1_i32_185
  let c4_i32_186 : BitVec 32 := 4#32
  let v199 : BitVec 32 := Scalar.remsi v198 c4_i32_186
  let c1_i32_192 : BitVec 32 := 1#32
  let v200 : BitVec 32 := Scalar.muli v199 c1_i32_192
  let v201 : BitVec 32 := Scalar.addi c0_i32_193 v200
  v201.toNat
def k0_dev8 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_198 : BitVec 32 := 2#32
  let v209 : BitVec 32 := Scalar.addi v2 c2_i32_198
  let c4_i32_199 : BitVec 32 := 4#32
  let v210 : BitVec 32 := Scalar.remsi v209 c4_i32_199
  let c1_i32_205 : BitVec 32 := 1#32
  let v211 : BitVec 32 := Scalar.muli v210 c1_i32_205
  let v212 : BitVec 32 := Scalar.addi c0_i32_206 v211
  v212.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_211 : BitVec 32 := 3#32
  let v220 : BitVec 32 := Scalar.addi v2 c3_i32_211
  let c4_i32_212 : BitVec 32 := 4#32
  let v221 : BitVec 32 := Scalar.remsi v220 c4_i32_212
  let c1_i32_218 : BitVec 32 := 1#32
  let v222 : BitVec 32 := Scalar.muli v221 c1_i32_218
  let v223 : BitVec 32 := Scalar.addi c0_i32_219 v222
  v223.toNat
def k0_dev10 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_281 : BitVec 32 := 1#32
  let v294 : BitVec 32 := Scalar.addi v2 c1_i32_281
  let c4_i32_282 : BitVec 32 := 4#32
  let v295 : BitVec 32 := Scalar.remsi v294 c4_i32_282
  let c1_i32_288 : BitVec 32 := 1#32
  let v296 : BitVec 32 := Scalar.muli v295 c1_i32_288
  let v297 : BitVec 32 := Scalar.addi c0_i32_289 v296
  v297.toNat
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_294 : BitVec 32 := 2#32
  let v305 : BitVec 32 := Scalar.addi v2 c2_i32_294
  let c4_i32_295 : BitVec 32 := 4#32
  let v306 : BitVec 32 := Scalar.remsi v305 c4_i32_295
  let c1_i32_301 : BitVec 32 := 1#32
  let v307 : BitVec 32 := Scalar.muli v306 c1_i32_301
  let v308 : BitVec 32 := Scalar.addi c0_i32_302 v307
  v308.toNat
def k0_dev12 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_307 : BitVec 32 := 3#32
  let v316 : BitVec 32 := Scalar.addi v2 c3_i32_307
  let c4_i32_308 : BitVec 32 := 4#32
  let v317 : BitVec 32 := Scalar.remsi v316 c4_i32_308
  let c1_i32_314 : BitVec 32 := 1#32
  let v318 : BitVec 32 := Scalar.muli v317 c1_i32_314
  let v319 : BitVec 32 := Scalar.addi c0_i32_315 v318
  v319.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S1x6144 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S6144x8192 : Shape := ⟨2, ![6144, 8192]⟩
abbrev S8192 : Shape := ⟨1, ![8192]⟩
abbrev S_ : Shape := ⟨0, ![]⟩
abbrev S6144 : Shape := ⟨1, ![6144]⟩
abbrev S6144x1 : Shape := ⟨2, ![6144, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S6144x8192, .f32⟩
  | .hbm, ⟨1, _⟩ => ⟨S8192, .f32⟩
  | .hbm, ⟨2, _⟩ => ⟨S6144x8192, .f32⟩
  | .hbm, ⟨3, _⟩ => ⟨S_, .f32⟩
  | .hbm, ⟨4, _⟩ => ⟨S6144, .f32⟩
  | .hbm, ⟨5, _⟩ => ⟨S6144x1, .f32⟩
  | .hbm, ⟨6, _⟩ => ⟨S_, .f32⟩
  | .hbm, ⟨7, _⟩ => ⟨S6144x1, .f32⟩
  | .hbm, ⟨8, _⟩ => ⟨S6144x1, .f32⟩
  | .hbm, ⟨9, _⟩ => ⟨S_, .f32⟩
  | .hbm, ⟨10, _⟩ => ⟨S6144x1, .f32⟩
  | .hbm, ⟨11, _⟩ => ⟨S6144x1, .f32⟩
  | .hbm, ⟨12, _⟩ => ⟨S6144x1, .f32⟩
  | .hbm, ⟨13, _⟩ => ⟨S1x8192, .f32⟩
  | .hbm, ⟨14, _⟩ => ⟨S6144x8192, .f32⟩
  | .hbm, ⟨15, _⟩ => ⟨S6144x8192, .f32⟩
  | .hbm, ⟨16, _⟩ => ⟨S6144x8192, .f32⟩
  | .hbm, ⟨17, _⟩ => ⟨S6144x8192, .f32⟩
  | .hbm, ⟨18, _⟩ => ⟨S6144x8192, .bf16⟩
  | _, _ => ⟨S6144x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Common.lean ====
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic
public import Idealize.ShloMosaic.Lib.Pipeline.Kit
public import Idealize.ShloMosaic.Lib.Ring.Trips

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The protocol's cells: three duties on a barrier cell, one (duty 0) on a send or receive cell. -/
abbrev UC : Type := URounds (GSem nD τ sig) (Fin 3)
/-- The user algebra: the pipelines' staging cells, the protocol's cells, the counters of local transfers. -/
abbrev UU : Type := UR sig nD τ × (UC × Counters)

local notation "𝕄" => MT nD τ sig Bool (Elt F) ℕ UU ℕ

/-- The embedding of the pipelines' staging cells. -/
abbrev EP : Emb (UR sig nD τ) (MT nD τ sig Bool (Elt F) ℕ UU ℕ) := embL
/-- The protocol's embedding: the left half of the right factor. -/
def ER : Emb UC (MT nD τ sig Bool (Elt F) ℕ UU ℕ) :=
  ((Emb.inl : Emb UC (UC × Counters)).trans (Emb.inr : Emb (UC × Counters) UU)).trans
    (uEmb (nD := nD) (sig := sig) (Ix := Bool) (Val := Elt F) (Name := ℕ) (U := UU) (Lvl := ℕ)).toEmb
/-- The protocol's cells lie in the part of the algebra that the program's proof owns. -/
instance ER_landsIn : (ER : Emb UC 𝕄).LandsIn (upEmb : UEmb _ 𝕄) := by unfold ER; infer_instance

/-! ## Buffers and their parts -/

/-- The contents of the buffer that `M` lies in, on core `c`. -/
abbrev Bf (c : Dev nD) {sp : Space} {S : Shape} {e : EltTy} (M : Memref sig .tc sp S e) : Type := Buf (Elt F) (M.view.loc (c : Thread nD τ))
/-- The buffer of `M` held whole on core `c`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s own elements held on core `c` at the share `q`. -/
abbrev ownAt (c : Dev nD) (q : PosShare TreeShare) {sp : Space} {S : Shape} {e : EltTy} (M : Memref sig .tc sp S e) (f : Bf (F := F) c M) : sProp 𝕄 :=
  M.view.loc (c : Thread nD τ) ↦[M.view.set]{q} f
/-- Memref `M`'s own elements held on core `c`. -/
abbrev own (c : Dev nD) {sp : Space} {S : Shape} {e : EltTy} (M : Memref sig .tc sp S e) (f : Bf (F := F) c M) : sProp 𝕄 :=
  M.view.loc (c : Thread nD τ) ↦[M.view.set]{fullShare} f
/-- The same elements at contents not named. -/
abbrev ownAny (c : Dev nD) {sp : Space} {S : Shape} {e : EltTy} (M : Memref sig .tc sp S e) : sProp 𝕄 :=
  iprop(∃ f : Bf (F := F) c M, own c M f)

/-- The array's six blocks of 1024 rows, as the kernels slice them. -/
abbrev blk {e : EltTy} (M : Memref sig .tc .hbm S6144x2048 e) : Fin 6 → Memref sig .tc .hbm S1024x2048 e
  | 0 => M.slice (Rect.unit (s := S6144x2048) ![0, 0] S1024x2048.size inb_S6144x2048_S1024x2048_0_0) (fun _ => rfl)
  | 1 => M.slice (Rect.unit (s := S6144x2048) ![1024, 0] S1024x2048.size inb_S6144x2048_S1024x2048_1024_0) (fun _ => rfl)
  | 2 => M.slice (Rect.unit (s := S6144x2048) ![2048, 0] S1024x2048.size inb_S6144x2048_S1024x2048_2048_0) (fun _ => rfl)
  | 3 => M.slice (Rect.unit (s := S6144x2048) ![3072, 0] S1024x2048.size inb_S6144x2048_S1024x2048_3072_0) (fun _ => rfl)
  | 4 => M.slice (Rect.unit (s := S6144x2048) ![4096, 0] S1024x2048.size inb_S6144x2048_S1024x2048_4096_0) (fun _ => rfl)
  | 5 => M.slice (Rect.unit (s := S6144x2048) ![5120, 0] S1024x2048.size inb_S6144x2048_S1024x2048_5120_0) (fun _ => rfl)

/-- The three slots of an input buffer. -/
abbrev slot3 {e : EltTy} (M : Memref sig .tc .vmem S3x1024x2048 e) : Fin 3 → Memref sig .tc .vmem S1024x2048 e
  | 0 => (M.slice (Rect.unit (s := S3x1024x2048) ![0, 0, 0] S1x1024x2048.size inb_S3x1024x2048_S1x1024x2048_0_0_0) (fun _ => rfl)).squeeze S1024x2048 squeezes_S1x1024x2048_S1024x2048
  | 1 => (M.slice (Rect.unit (s := S3x1024x2048) ![1, 0, 0] S1x1024x2048.size inb_S3x1024x2048_S1x1024x2048_1_0_0) (fun _ => rfl)).squeeze S1024x2048 squeezes_S1x1024x2048_S1024x2048
  | 2 => (M.slice (Rect.unit (s := S3x1024x2048) ![2, 0, 0] S1x1024x2048.size inb_S3x1024x2048_S1x1024x2048_2_0_0) (fun _ => rfl)).squeeze S1024x2048 squeezes_S1x1024x2048_S1024x2048

/-- The two slots of a staging buffer. -/
abbrev slot2 {e : EltTy} (M : Memref sig .tc .vmem S2x1024x2048 e) : Fin 2 → Memref sig .tc .vmem S1024x2048 e
  | 0 => (M.slice (Rect.unit (s := S2x1024x2048) ![0, 0, 0] S1x1024x2048.size inb_S2x1024x2048_S1x1024x2048_0_0_0) (fun _ => rfl)).squeeze S1024x2048 squeezes_S1x1024x2048_S1024x2048
  | 1 => (M.slice (Rect.unit (s := S2x1024x2048) ![1, 0, 0] S1x1024x2048.size inb_S2x1024x2048_S1x1024x2048_1_0_0) (fun _ => rfl)).squeeze S1024x2048 squeezes_S1x1024x2048_S1024x2048

/-- The three chunks of 2048 row sums. -/
abbrev prow : Fin 3 → Memref sig .tc .vmem S1x2048 .f32
  | 0 => (Memref.whole cc0_scratch3).slice (Rect.unit (s := S1x6144) ![0, 0] S1x2048.size inb_S1x6144_S1x2048_0_0) (fun _ => rfl)
  | 1 => (Memref.whole cc0_scratch3).slice (Rect.unit (s := S1x6144) ![0, 2048] S1x2048.size inb_S1x6144_S1x2048_0_2048) (fun _ => rfl)
  | 2 => (Memref.whole cc0_scratch3).slice (Rect.unit (s := S1x6144) ![0, 4096] S1x2048.size inb_S1x6144_S1x2048_0_4096) (fun _ => rfl)

/-- The receive buffer's chunks: row `o` is written by the device `o + 1` places before. -/
abbrev crow : Fin 3 → Fin 3 → Memref sig .tc .vmem S1x2048 .f32
  | 0, 0 => ((Memref.whole cc0_scratch4).slice (Rect.unit (s := S3x1x6144) ![0, 0, 0] S1x1x2048.size inb_S3x1x6144_S1x1x2048_0_0_0) (fun _ => rfl)).squeeze S1x2048 squeezes_S1x1x2048_S1x2048
  | 0, 1 => ((Memref.whole cc0_scratch4).slice (Rect.unit (s := S3x1x6144) ![0, 0, 2048] S1x1x2048.size inb_S3x1x6144_S1x1x2048_0_0_2048) (fun _ => rfl)).squeeze S1x2048 squeezes_S1x1x2048_S1x2048
  | 0, 2 => ((Memref.whole cc0_scratch4).slice (Rect.unit (s := S3x1x6144) ![0, 0, 4096] S1x1x2048.size inb_S3x1x6144_S1x1x2048_0_0_4096) (fun _ => rfl)).squeeze S1x2048 squeezes_S1x1x2048_S1x2048
  | 1, 0 => ((Memref.whole cc0_scratch4).slice (Rect.unit (s := S3x1x6144) ![1, 0, 0] S1x1x2048.size inb_S3x1x6144_S1x1x2048_1_0_0) (fun _ => rfl)).squeeze S1x2048 squeezes_S1x1x2048_S1x2048
  | 1, 1 => ((Memref.whole cc0_scratch4).slice (Rect.unit (s := S3x1x6144) ![1, 0, 2048] S1x1x2048.size inb_S3x1x6144_S1x1x2048_1_0_2048) (fun _ => rfl)).squeeze S1x2048 squeezes_S1x1x2048_S1x2048
  | 1, 2 => ((Memref.whole cc0_scratch4).slice (Rect.unit (s := S3x1x6144) ![1, 0, 4096] S1x1x2048.size inb_S3x1x6144_S1x1x2048_1_0_4096) (fun _ => rfl)).squeeze S1x2048 squeezes_S1x1x2048_S1x2048
  | 2, 0 => ((Memref.whole cc0_scratch4).slice (Rect.unit (s := S3x1x6144) ![2, 0, 0] S1x1x2048.size inb_S3x1x6144_S1x1x2048_2_0_0) (fun _ => rfl)).squeeze S1x2048 squeezes_S1x1x2048_S1x2048
  | 2, 1 => ((Memref.whole cc0_scratch4).slice (Rect.unit (s := S3x1x6144) ![2, 0, 2048] S1x1x2048.size inb_S3x1x6144_S1x1x2048_2_0_2048) (fun _ => rfl)).squeeze S1x2048 squeezes_S1x1x2048_S1x2048
  | 2, 2 => ((Memref.whole cc0_scratch4).slice (Rect.unit (s := S3x1x6144) ![2, 0, 4096] S1x1x2048.size inb_S3x1x6144_S1x1x2048_2_0_4096) (fun _ => rfl)).squeeze S1x2048 squeezes_S1x1x2048_S1x2048

/-- Contents that a memref reads alike make one resource. -/
theorem ownAt_congr [FloatOps F] (c : Dev nD) (q : PosShare TreeShare) {sp : Space} {S : Shape} {e : EltTy} (M : Memref sig .tc sp S e)
    {f g : Bf (F := F) c M} (h : M.view.read (Elt F) f = M.view.read (Elt F) g) : (ownAt c q M f : sProp 𝕄) = ownAt c q M g := by
  unfold ownAt
  rw [pointsTo_rep (c : Thread nD τ) M f q, h, ← pointsTo_rep (c : Thread nD τ) M g q]

end Cert.Proof.Norm
-- ==== Proof.Protocol.lean ====
module

public import proofs.«01_k».proof.Proof.Common

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## The mesh and the cells -/

/-- The device `o + 1` places after `c`. -/
def nx (c : Dev nD) (o : Fin 3) : Dev nD := ⟨(c.val + (o.val + 1)) % 4, Nat.mod_lt _ (by decide)⟩
/-- The offset that leads back. -/
def rev (o : Fin 3) : Fin 3 := ⟨2 - o.val, by omega⟩
/-- An offset and then the one that leads back: the device itself. -/
theorem nx_rev (c : Dev nD) (o : Fin 3) : nx (nx c o) (rev o) = c := by revert c o; decide
/-- The offset back of the offset back is the offset. -/
theorem rev_rev (o : Fin 3) : rev (rev o) = o := by revert o; decide
/-- The same in the other order. -/
theorem nx_rev' (c : Dev nD) (o : Fin 3) : nx (nx c (rev o)) o = c := by revert c o; decide

/-- The barrier's semaphore. -/
abbrev barS : SemLoc sig := .reg (sig.barrier 0 rfl)
/-- The send semaphore of offset `o`, chunk `ch`. -/
abbrev sndS (o ch : Fin 3) : SemLoc sig := .dma ⟨7 + (3 * o.val + ch.val), by show _ < 31; omega⟩
/-- The receive semaphore of offset `o`, chunk `ch`. -/
abbrev rcvS (o ch : Fin 3) : SemLoc sig := .dma ⟨16 + (3 * o.val + ch.val), by show _ < 31; omega⟩
/-- Device `d`'s barrier cell. -/
abbrev barC (d : Dev nD) : GSem nD τ sig := ((d : Thread nD τ), barS)
/-- Its send cell of offset `o`, chunk `ch`. -/
abbrev sndC (d : Dev nD) (o ch : Fin 3) : GSem nD τ sig := ((d : Thread nD τ), sndS o ch)
/-- Its receive cell of offset `o`, chunk `ch`. -/
abbrev rcvC (d : Dev nD) (o ch : Fin 3) : GSem nD τ sig := ((d : Thread nD τ), rcvS o ch)

/-- What a semaphore is for. -/
inductive Use where
  | bar | snd (o ch : Fin 3) | rcv (o ch : Fin 3) | other
  deriving DecidableEq

/-- What each semaphore is for, by its number. -/
def use : SemLoc sig → Use
  | .reg _ => .bar
  | .dma k =>
    if k.val < 7 then .other
    else if k.val < 16 then .snd (Fin.ofNat 3 ((k.val - 7) / 3)) (Fin.ofNat 3 ((k.val - 7) % 3))
    else if k.val < 25 then .rcv (Fin.ofNat 3 ((k.val - 16) / 3)) (Fin.ofNat 3 ((k.val - 16) % 3))
    else .other

/-- The barrier's semaphore is the barrier. -/
theorem use_bar : use barS = .bar := rfl
/-- A send semaphore is for sending. -/
theorem use_snd (o ch : Fin 3) : use (sndS o ch) = .snd o ch := by revert o ch; decide
/-- A receive semaphore is for receiving. -/
theorem use_rcv (o ch : Fin 3) : use (rcvS o ch) = .rcv o ch := by revert o ch; decide

/-- What one remote copy of a chunk credits. -/
theorem credit (ch : Fin 3) : (prow ch).view.dmaCredit = 256 := by fin_cases ch <;> rfl

/-! ## The schedule -/

/-- Each device's chunks of row sums. -/
abbrev Sums (F : FTy → Type) : Type := Dev nD → Fin 3 → S1x2048.Idx → Elt F .f32

variable (PR : Sums F)

/-- Device `p`'s receive row `o`, at contents not named, and that the row's receive cells are in their first round. -/
def rowPay (p : Dev nD) (o : Fin 3) : sProp 𝕄 :=
  iprop(ownAny p (crow o 0) ∗ ownAny p (crow o 1) ∗ ownAny p (crow o 2)
    ∗ reached ER (rcvC p o 0) 0 ∗ reached ER (rcvC p o 1) 0 ∗ reached ER (rcvC p o 2) 0)
/-- The receive row's payload, written out. -/
theorem rowPay_eq (p : Dev nD) (o : Fin 3) : (rowPay p o : sProp 𝕄)
    = iprop(ownAny p (crow o 0) ∗ ownAny p (crow o 1) ∗ ownAny p (crow o 2)
      ∗ reached ER (rcvC p o 0) 0 ∗ reached ER (rcvC p o 1) 0 ∗ reached ER (rcvC p o 2) 0) := rfl
/-- Paid to device `d`'s barrier by the device that lies `o + 1` places before it: its receive row for copies from `d`. -/
def barPay (d : Dev nD) (o : Fin 3) : sProp 𝕄 := rowPay (nx d (rev o)) (rev o)
/-- Paid to a receive cell by the copy: the chunk, at the sender's row sums. -/
def rcvPay (d : Dev nD) (o ch : Fin 3) : sProp 𝕄 :=
  iprop(∃ f : Bf (F := F) d (crow o ch), own d (crow o ch)
    ((crow o ch).view.write (Elt F) f ((prow ch).view.read (Elt F) ((prow ch).view.rep (PR (nx d (rev o)) ch))) Finset.univ))
/-- Paid to a send cell by the copy: the third of the source it read. -/
def sndPay (d : Dev nD) (o ch : Fin 3) : sProp 𝕄 := ownAt d (Ring.shares3 fullShare o) (prow ch) ((prow ch).view.rep (PR d ch))

/-- A send cell's payload, written out. -/
theorem sndPay_eq (d : Dev nD) (o ch : Fin 3) : (sndPay PR d o ch : sProp 𝕄)
    = ((prow ch).view.loc (d : Thread nD τ) ↦[(prow ch).view.set]{Ring.shares3 fullShare o} (prow ch).view.rep (PR d ch)) := rfl

/-- A receive cell's payload, written out. -/
theorem rcvPay_eq (d : Dev nD) (o ch : Fin 3) : (rcvPay PR d o ch : sProp 𝕄)
    = iprop(∃ f : Bf (F := F) d (crow o ch), (crow o ch).view.loc (d : Thread nD τ) ↦[(crow o ch).view.set]{fullShare}
      ((crow o ch).view.write (Elt F) f ((prow ch).view.read (Elt F) ((prow ch).view.rep (PR (nx d (rev o)) ch))) Finset.univ)) := rfl
/-- One place on, three places back. -/
theorem rev_0 : rev 0 = 2 := rfl
/-- Two places either way. -/
theorem rev_1 : rev 1 = 1 := rfl
/-- Three places on, one place back. -/
theorem rev_2 : rev 2 = 0 := rfl

/-- One round: three duties of one unit on a barrier, one of a chunk's credit on a send or receive cell. -/
def Rd : Rounds.Schedule (GSem nD τ sig) (Fin 3) 𝕄 where
  duties g r := if r = 0 ∧ g.1.2 = .tc then (match use g.2 with | .bar => Finset.univ | .other => ∅ | _ => {0}) else ∅
  unitless _ := False
  amount g _ _ := if use g.2 = .bar then 1 else 256
  payload g _ d := match use g.2 with
    | .bar => barPay g.1.1 d
    | .snd o ch => sndPay PR g.1.1 o ch
    | .rcv o ch => rcvPay PR g.1.1 o ch
    | .other => iprop(emp)
  amount_pos g _ _ _ := by
    split
    · exact Nat.one_pos
    · exact (by decide)

/-- Every payload may be kept in a cell's invariant. -/
instance Rd_storable (g : GSem nD τ sig) (r : ℕ) (d : Fin 3) :
    BI.Storable (upEmb : UEmb _ 𝕄) ((Rd (F := F) PR).payload g r d) := by
  show BI.Storable upEmb (match use g.2 with
    | .bar => barPay g.1.1 d
    | .snd o ch => sndPay PR g.1.1 o ch
    | .rcv o ch => rcvPay PR g.1.1 o ch
    | .other => iprop(emp))
  unfold barPay rowPay rcvPay sndPay
  split <;> infer_instance

/-- A barrier has all three duties in its first round; -/
theorem duties_bar (d : Dev nD) : (Rd PR).duties (barC d) 0 = Finset.univ := by dsimp only [Rd]; rw [if_pos ⟨rfl, rfl⟩, use_bar]
/-- listed. -/
theorem duties_bar3 (d : Dev nD) : (Rd PR).duties (barC d) 0 = {0, 1, 2} := by rw [duties_bar]; rfl
/-- A send cell has one duty. -/
theorem duties_snd (d : Dev nD) (o ch : Fin 3) : (Rd PR).duties (sndC d o ch) 0 = {0} := by
  dsimp only [Rd]; rw [if_pos ⟨rfl, rfl⟩, use_snd]
/-- A receive cell has one duty. -/
theorem duties_rcv (d : Dev nD) (o ch : Fin 3) : (Rd PR).duties (rcvC d o ch) 0 = {0} := by
  dsimp only [Rd]; rw [if_pos ⟨rfl, rfl⟩, use_rcv]
/-- After the first round no cell has a duty. -/
theorem duties_later (g : GSem nD τ sig) : ∀ r, 1 ≤ r → (Rd PR).duties g r = ∅ :=
  fun r hr => by dsimp only [Rd]; rw [if_neg (fun h => by omega)]

/-- A barrier's duty is one unit. -/
theorem amount_bar (d : Dev nD) (r : ℕ) (u : Fin 3) : (Rd PR).amount (barC d) r u = 1 := by dsimp only [Rd]; exact if_pos use_bar
/-- A send cell's duty is a chunk's credit. -/
theorem amount_snd (d : Dev nD) (o ch : Fin 3) (r : ℕ) (u : Fin 3) : (Rd PR).amount (sndC d o ch) r u = 256 := by
  dsimp only [Rd]; rw [use_snd]; rfl
/-- A receive cell's duty is a chunk's credit. -/
theorem amount_rcv (d : Dev nD) (o ch : Fin 3) (r : ℕ) (u : Fin 3) : (Rd PR).amount (rcvC d o ch) r u = 256 := by
  dsimp only [Rd]; rw [use_rcv]; rfl

/-- A barrier's round comes to three units. -/
theorem expect_bar (d : Dev nD) : (Rd PR).expect (barC d) 0 = 3 := by
  unfold Schedule.expect Schedule.amountOf; rw [duties_bar]
  simp only [amount_bar]; rfl
/-- A send cell's round comes to one chunk's credit. -/
theorem expect_snd (d : Dev nD) (o ch : Fin 3) : (Rd PR).expect (sndC d o ch) 0 = 256 := by
  unfold Schedule.expect Schedule.amountOf; rw [duties_snd, Finset.sum_singleton, amount_snd]
/-- A receive cell's round comes to one chunk's credit. -/
theorem expect_rcv (d : Dev nD) (o ch : Fin 3) : (Rd PR).expect (rcvC d o ch) 0 = 256 := by
  unfold Schedule.expect Schedule.amountOf; rw [duties_rcv, Finset.sum_singleton, amount_rcv]

/-- What a barrier's duty brings. -/
theorem payload_bar (d : Dev nD) (r : ℕ) (u : Fin 3) : (Rd PR).payload (barC d) r u = barPay d u := by
  dsimp only [Rd]; rw [use_bar]
/-- What a send cell's duty brings. -/
theorem payload_snd (d : Dev nD) (o ch : Fin 3) (r : ℕ) (u : Fin 3) : (Rd PR).payload (sndC d o ch) r u = sndPay PR d o ch := by
  dsimp only [Rd]; rw [use_snd]
/-- What a receive cell's duty brings. -/
theorem payload_rcv (d : Dev nD) (o ch : Fin 3) (r : ℕ) (u : Fin 3) : (Rd PR).payload (rcvC d o ch) r u = rcvPay PR d o ch := by
  dsimp only [Rd]; rw [use_rcv]

/-- The three payloads of a core's own barrier. -/
theorem payload_bar_own0 (d : Dev nD) : (Rd PR).payload (barC d) 0 0 = rowPay (nx d 2) 2 := by rw [payload_bar]; rfl
/-- The second of a core's own barrier. -/
theorem payload_bar_own1 (d : Dev nD) : (Rd PR).payload (barC d) 0 1 = rowPay (nx d 1) 1 := by rw [payload_bar]; rfl
/-- The third of a core's own barrier. -/
theorem payload_bar_own2 (d : Dev nD) : (Rd PR).payload (barC d) 0 2 = rowPay (nx d 0) 0 := by rw [payload_bar]; rfl
/-- There and back around the mesh. -/
theorem nx_02 (c : Dev nD) : nx (nx c 0) 2 = c := nx_rev c 0
/-- Two places on and two places on. -/
theorem nx_11 (c : Dev nD) : nx (nx c 1) 1 = c := nx_rev c 1
/-- Three places on and one place on. -/
theorem nx_20 (c : Dev nD) : nx (nx c 2) 0 = c := nx_rev c 2

/-- A chunk at the named sums, lent in three parts. -/
theorem sums_split (c : Dev nD) (ch : Fin 3) {f : Bf (F := F) c (prow ch)}
    (h : (prow ch).view.read (Elt F) f = PR c ch) :
    (own c (prow ch) f : sProp 𝕄) ⊢ iprop(
      ((prow ch).view.loc (c : Thread nD τ) ↦[(prow ch).view.set]{Ring.shares3 fullShare 0} (prow ch).view.rep (PR c ch))
      ∗ ((prow ch).view.loc (c : Thread nD τ) ↦[(prow ch).view.set]{Ring.shares3 fullShare 1} (prow ch).view.rep (PR c ch))
      ∗ ((prow ch).view.loc (c : Thread nD τ) ↦[(prow ch).view.set]{Ring.shares3 fullShare 2} (prow ch).view.rep (PR c ch))) := by
  rw [show (own c (prow ch) f : sProp 𝕄) = own c (prow ch) ((prow ch).view.rep (PR c ch)) from
    ownAt_congr c fullShare (prow ch) (h.trans (View.read_rep _ _).symm)]
  exact (Ring.pointsTo_thirds fullShare _).1

/-- The same, the sums to be shown when the chunk is at hand. -/
theorem sums_lend (c : Dev nD) (ch : Fin 3) {f : Bf (F := F) c (prow ch)} :
    (own c (prow ch) f : sProp 𝕄) ⊢ iprop(⌜(prow ch).view.read (Elt F) f = PR c ch⌝ -∗
      (((prow ch).view.loc (c : Thread nD τ) ↦[(prow ch).view.set]{Ring.shares3 fullShare 0} (prow ch).view.rep (PR c ch))
      ∗ ((prow ch).view.loc (c : Thread nD τ) ↦[(prow ch).view.set]{Ring.shares3 fullShare 1} (prow ch).view.rep (PR c ch))
      ∗ ((prow ch).view.loc (c : Thread nD τ) ↦[(prow ch).view.set]{Ring.shares3 fullShare 2} (prow ch).view.rep (PR c ch)))) := by
  iintro H %h
  iapply (sums_split PR c ch h) $$ H
/-- The three parts are the chunk. -/
theorem sums_back (c : Dev nD) (ch : Fin 3) :
    iprop(((prow ch).view.loc (c : Thread nD τ) ↦[(prow ch).view.set]{Ring.shares3 fullShare 0} (prow ch).view.rep (PR c ch))
      ∗ ((prow ch).view.loc (c : Thread nD τ) ↦[(prow ch).view.set]{Ring.shares3 fullShare 1} (prow ch).view.rep (PR c ch))
      ∗ ((prow ch).view.loc (c : Thread nD τ) ↦[(prow ch).view.set]{Ring.shares3 fullShare 2} (prow ch).view.rep (PR c ch)))
    ⊢ (ownAny c (prow ch) : sProp 𝕄) :=
  ((Ring.pointsTo_thirds fullShare _).2).trans (by iintro H; iexists _; iexact H)

/-! ## What each core owes; the levels -/

/-- The credits of chunk `ch`'s three copies. -/
def oR (c : Dev nD) (ch : Fin 3) : CellTallies nD τ sig Bool :=
  tallyAt (rcvC (nx c 2) 2 ch) true 256 + tallyAt (rcvC (nx c 1) 1 ch) true 256 + tallyAt (rcvC (nx c 0) 0 ch) true 256
/-- The credits of a chunk's three copies, one by one. -/
theorem oR_peel (c : Dev nD) (ch : Fin 3) : oR c ch
    = tallyAt (rcvC (nx c 2) 2 ch) true 256 + tallyAt (rcvC (nx c 1) 1 ch) true 256 + tallyAt (rcvC (nx c 0) 0 ch) true 256 := rfl
/-- Chunk `ch`'s credits, last in what a core owes, one by one. -/
theorem owes_peel (c : Dev nD) (ch : Fin 3) (O : CellTallies nD τ sig Bool) (W : Waits sig Bool) :
    (owes (c : Thread nD τ) (O + oR c ch) W : sProp 𝕄)
      ⊢ owes (c : Thread nD τ) (O + tallyAt (rcvC (nx c 2) 2 ch) true 256 + tallyAt (rcvC (nx c 1) 1 ch) true 256
          + tallyAt (rcvC (nx c 0) 0 ch) true 256) W := by
  rw [oR_peel, ← add_assoc, ← add_assoc]

/-- The same where nothing else is owed. -/
theorem owes_peel_last (c : Dev nD) (ch : Fin 3) (W : Waits sig Bool) :
    (owes (c : Thread nD τ) (oR c ch) W : sProp 𝕄)
      ⊢ owes (c : Thread nD τ) (tallyAt (rcvC (nx c 2) 2 ch) true 256 + tallyAt (rcvC (nx c 1) 1 ch) true 256
          + tallyAt (rcvC (nx c 0) 0 ch) true 256) W := by
  rw [oR_peel]

/-- Tensor-core cells have both indices: `false` for a core's own transfers, `true` for what other cores pay. -/
def L (g : GSem nD τ sig) : Finset Bool := if g.1.2 = .tc then Finset.univ else ∅
/-- A core's own transfers at 0, barriers at 1, remote arrivals at 2. -/
def lv (g : GSem nD τ sig) : Bool → ℕ
  | false => 0
  | true => if use g.2 = .bar then 1 else 2

/-- A tensor core's cells have both indices. -/
theorem L_tc (c : Dev nD) (sm : SemLoc sig) : L ((c : Thread nD τ), sm) = Finset.univ := if_pos rfl
/-- Other cells have none. -/
theorem L_of_ne (g : GSem nD τ sig) (h : g.1.2 ≠ .tc) : L g = ∅ := if_neg h

/-- Every summand of a tally is a receive cell's, at index `true`. -/
def OnRcv (O : CellTallies nD τ sig Bool) : Prop :=
  ∀ g ι, 0 < O g ι → ∃ (d : Dev nD) (o ch : Fin 3), g = rcvC d o ch ∧ ι = true

/-- Sums of receive cells' tallies are such. -/
theorem onRcv_add {O O' : CellTallies nD τ sig Bool} (h : OnRcv O) (h' : OnRcv O') : OnRcv (O + O') := by
  intro g ι hg
  by_cases hO : 0 < O g ι
  · exact h g ι hO
  · refine h' g ι ?_
    have : 0 < O g ι + O' g ι := hg
    omega
/-- A receive cell's tally is such. -/
theorem onRcv_tally (d : Dev nD) (o ch : Fin 3) (n : ℕ) : OnRcv (tallyAt (rcvC d o ch) true n) := by
  intro g ι hg
  rw [tallyAt_apply] at hg
  by_cases h : g = rcvC d o ch ∧ ι = true
  · exact ⟨d, o, ch, h⟩
  · rw [if_neg h] at hg; exact absurd hg (Nat.lt_irrefl 0)
/-- So is what a core owes for a chunk. -/
theorem onRcv_oR (c : Dev nD) (ch : Fin 3) : OnRcv (oR c ch) :=
  onRcv_add (onRcv_add (onRcv_tally _ _ _ _) (onRcv_tally _ _ _ _)) (onRcv_tally _ _ _ _)

/-- A remote arrival's level. -/
theorem lv_rcv (d : Dev nD) (o ch : Fin 3) : lv (rcvC d o ch) true = 2 := by
  dsimp only [lv]; rw [use_rcv]; rfl
/-- A barrier's level. -/
theorem lv_bar (d : Dev nD) : lv (barC d) true = 1 := by
  dsimp only [lv]; exact if_pos use_bar

/-- Owing arrivals only, a core may wait on any of its semaphores for its own transfers. -/
theorem mayWait_own (c : Dev nD) (sm : SemLoc sig) {O : CellTallies nD τ sig Bool} (hO : OnRcv O) :
    (levAts L lv : sProp 𝕄) ⊢ MayWait (c : Thread nD τ) sm false O :=
  MayOwe.of_cut (L := L) (lev := lv) 0 (fun p hp => by rw [Finset.mem_singleton.mp hp, L_tc]; exact Finset.mem_univ _)
    (fun g u hg => by obtain ⟨d, o, ch, rfl, rfl⟩ := hO g u hg; rw [L_tc]; exact Finset.mem_univ _)
    (fun p hp => by rw [Finset.mem_singleton.mp hp]; exact le_refl 0)
    (fun g u hg => by obtain ⟨d, o, ch, rfl, rfl⟩ := hO g u hg; rw [lv_rcv]; decide)
/-- Owing arrivals only, a core may wait on its barrier. -/
theorem mayWait_bar (c : Dev nD) {O : CellTallies nD τ sig Bool} (hO : OnRcv O) :
    (levAts L lv : sProp 𝕄) ⊢ MayWait (c : Thread nD τ) barS true O :=
  MayOwe.of_cut (L := L) (lev := lv) 1 (fun p hp => by rw [Finset.mem_singleton.mp hp, L_tc]; exact Finset.mem_univ _)
    (fun g u hg => by obtain ⟨d, o, ch, rfl, rfl⟩ := hO g u hg; rw [L_tc]; exact Finset.mem_univ _)
    (fun p hp => by rw [Finset.mem_singleton.mp hp]; exact le_of_eq (lv_bar c))
    (fun g u hg => by obtain ⟨d, o, ch, rfl, rfl⟩ := hO g u hg; rw [lv_rcv]; decide)

/-- The same for all its semaphores at once. -/
theorem mayWaits_own (c : Dev nD) {O : CellTallies nD τ sig Bool} (hO : OnRcv O) :
    (levAts L lv : sProp 𝕄) ⊢ Transfers.MayWaits (c : Thread nD τ) false O :=
  Transfers.MayWaits.intro fun sm => mayWait_own c sm hO

end Cert.Proof.Norm
-- ==== Proof.Contents.lean ====
module

public import proofs.«01_k».proof.Proof.Common
public import Idealize.ShloMosaic.Lib.WritesUnit
public import Idealize.ShloMosaic.Lib.VecWindow
public import Idealize.ShloMosaic.Lib.ValueIdxCore

@[expose] public section

noncomputable section

namespace Cert.Proof.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Bool (Elt F) ℕ UU ℕ

/-! ## Values laid out over slots and blocks -/

/-- A block seen through the shape of one slot. -/
def slotV {α : Type} (x : S1024x2048.Idx → α) : S1x1024x2048.Idx → α :=
  fun y => x (Shape.reshapeEquiv (show S1x1024x2048.numel = S1024x2048.numel by rfl) y)
/-- A chunk seen through the shape of one receive row. -/
def rowV {α : Type} (x : S1x2048.Idx → α) : S1x1x2048.Idx → α :=
  fun y => x (Shape.reshapeEquiv (show S1x1x2048.numel = S1x2048.numel by rfl) y)
/-- A slot's contents seen as a block. -/
def unslot {α : Type} (x : S1x1024x2048.Idx → α) : S1024x2048.Idx → α :=
  fun y => x (Shape.reshapeEquiv (show S1024x2048.numel = S1x1024x2048.numel by rfl) y)

/-- Six blocks of row sums, one column. -/
def col {α : Type} (R : Fin 6 → S1024x1.Idx → α) : S6144x1.Idx → α :=
  fun y => R ⟨(y 0).val / 1024, by have h : (y 0).val < 6144 := (y 0).isLt; omega⟩
    (ValueIdx.ix2 ⟨(y 0).val % 1024, Nat.mod_lt _ (by decide)⟩ (y 1))
/-- Six blocks of rows, one array. -/
def stack {α : Type} (X : Fin 6 → S1024x2048.Idx → α) : S6144x2048.Idx → α :=
  fun y => X ⟨(y 0).val / 1024, by have h : (y 0).val < 6144 := (y 0).isLt; omega⟩
    (ValueIdx.ix2 ⟨(y 0).val % 1024, Nat.mod_lt _ (by decide)⟩ (y 1))
/-- Three chunks, one row. -/
def row {α : Type} (V : Fin 3 → S1x2048.Idx → α) : S1x6144.Idx → α :=
  fun y => V ⟨(y 1).val / 2048, by have h : (y 1).val < 6144 := (y 1).isLt; omega⟩
    (ValueIdx.ix2 (y 0) ⟨(y 1).val % 2048, Nat.mod_lt _ (by decide)⟩)

/-! ## Loads and reads of slots, receive rows and chunks -/

/-- A slot of the input buffer, loaded after a copy filled it, is the copied block. -/
theorem load_slot {e : EltTy} (M : Memref sig .tc .vmem S3x1024x2048 e) {off : Fin 3 → ℕ}
    (inb : ∀ a, off a + S1x1024x2048.size a ≤ S3x1024x2048.size a) (hq : S1x1024x2048.Squeezes S1024x2048)
    (f : M.view.ty.Contents (Elt F)) (x : S1024x2048.Idx → Elt F e) (L : List (View.Piece (Elt F) S1024x2048 e)) :
    M.view.readAt (Elt F) (Rect.unit (s := S3x1024x2048) off S1x1024x2048.size inb).toLoadRect
      (((M.slice (Rect.unit (s := S3x1024x2048) off S1x1024x2048.size inb) (fun _ => rfl)).squeeze S1024x2048 hq).view.writes (Elt F) f
        (⟨Rect.whole S1024x2048, x⟩ :: L)) = slotV x := by
  funext y
  have h := View.read_writes_cons_emb
    ((M.slice (Rect.unit (s := S3x1024x2048) off S1x1024x2048.size inb) (fun _ => rfl)).squeeze S1024x2048 hq).view f (Rect.whole S1024x2048) x L
    (Shape.reshapeEquiv (Shape.Squeezes.numel_eq hq).symm y)
  rw [Rect.emb_whole_apply] at h
  refine Eq.trans ?_ h
  refine congrArg (fun z => M.view.read (Elt F) _ ((Rect.unit (s := S3x1024x2048) off S1x1024x2048.size inb).emb z)) ?_
  exact ((Shape.reshapeEquiv_reshapeEquiv (Shape.Squeezes.numel_eq hq) (Shape.Squeezes.numel_eq hq).symm y).trans (Shape.reshapeEquiv_self _ y)).symm

/-- A receive row's chunk, loaded after a copy filled it, is the copied chunk. -/
theorem load_row {e : EltTy} (M : Memref sig .tc .vmem S3x1x6144 e) {off : Fin 3 → ℕ}
    (inb : ∀ a, off a + S1x1x2048.size a ≤ S3x1x6144.size a) (hq : S1x1x2048.Squeezes S1x2048)
    (f : M.view.ty.Contents (Elt F)) (x : S1x2048.Idx → Elt F e) :
    M.view.readAt (Elt F) (Rect.unit (s := S3x1x6144) off S1x1x2048.size inb).toLoadRect
      (((M.slice (Rect.unit (s := S3x1x6144) off S1x1x2048.size inb) (fun _ => rfl)).squeeze S1x2048 hq).view.write (Elt F) f x Finset.univ)
      = rowV x := by
  funext y
  have h := congrFun (View.read_write_univ
    (v := ((M.slice (Rect.unit (s := S3x1x6144) off S1x1x2048.size inb) (fun _ => rfl)).squeeze S1x2048 hq).view) f x)
    (Shape.reshapeEquiv (Shape.Squeezes.numel_eq hq).symm y)
  refine Eq.trans ?_ h
  refine congrArg (fun z => M.view.read (Elt F) _ ((Rect.unit (s := S3x1x6144) off S1x1x2048.size inb).emb z)) ?_
  exact ((Shape.reshapeEquiv_reshapeEquiv (Shape.Squeezes.numel_eq hq) (Shape.Squeezes.numel_eq hq).symm y).trans (Shape.reshapeEquiv_self _ y)).symm

/-- A slot of the staging buffer, read after a store filled it, is what was stored. -/
theorem read_stage {e : EltTy} (M : Memref sig .tc .vmem S2x1024x2048 e) {off : Fin 3 → ℕ}
    (inb : ∀ a, off a + S1x1024x2048.size a ≤ S2x1024x2048.size a) (hq : S1x1024x2048.Squeezes S1024x2048)
    (f : M.view.ty.Contents (Elt F)) (w : S1x1024x2048.Idx → Elt F e) :
    ((M.slice (Rect.unit (s := S2x1024x2048) off S1x1024x2048.size inb) (fun _ => rfl)).squeeze S1024x2048 hq).view.read (Elt F)
      ((M.access (Rect.unit (s := S2x1024x2048) off S1x1024x2048.size inb)).write (Elt F) f w Finset.univ) = unslot w := by
  funext y
  exact congrFun (View.read_write_univ (v := M.access (Rect.unit (s := S2x1024x2048) off S1x1024x2048.size inb)) f w)
    (Shape.reshapeEquiv (Shape.Squeezes.numel_eq hq) y)

/-- A block put in a slot and taken out again is the block. -/
theorem unslot_slotV {α : Type} (x : S1024x2048.Idx → α) : unslot (slotV x) = x := by
  funext y; unfold unslot slotV; rw [Shape.reshapeEquiv_reshapeEquiv, Shape.reshapeEquiv_self]

/-- Block `i` of a column lies where the column has it. -/
theorem col_piece {α : Type} (R : Fin 6 → S1024x1.Idx → α) (i : Fin 6) {off : Fin 2 → ℕ} (inb : ∀ a, off a + S1024x1.size a ≤ S6144x1.size a)
    (h : off = ![1024 * i.val, 0]) (x : S1024x1.Idx) : R i x = col R ((Rect.unit (s := S6144x1) off S1024x1.size inb).emb x) := by
  subst h
  have h0 : (x 0).val < 1024 := (x 0).isLt
  have e0 : ((Rect.unit (s := S6144x1) ![1024 * i.val, 0] S1024x1.size inb).emb x 0).val = 1024 * i.val + (x 0).val := by
    show 1024 * i.val + 1 * (x 0).val = _; omega
  unfold col
  refine congr (congrArg R (Fin.ext ?_)) ?_
  · show i.val = ((Rect.unit (s := S6144x1) ![1024 * i.val, 0] S1024x1.size inb).emb x 0).val / 1024
    rw [e0]; omega
  · funext a
    match a with
    | ⟨0, _⟩ =>
      refine Fin.ext ?_
      show (x 0).val = ((Rect.unit (s := S6144x1) ![1024 * i.val, 0] S1024x1.size inb).emb x 0).val % 1024
      rw [e0]; omega
    | ⟨1, _⟩ =>
      refine Fin.ext ?_
      show (x 1).val = 0 + 1 * (x 1).val
      omega

/-- Chunk `k` of a row lies where the row has it. -/
theorem row_piece {α : Type} (V : Fin 3 → S1x2048.Idx → α) (k : Fin 3) {off : Fin 2 → ℕ} (inb : ∀ a, off a + S1x2048.size a ≤ S1x6144.size a)
    (h : off = ![0, 2048 * k.val]) (x : S1x2048.Idx) : V k x = row V ((Rect.unit (s := S1x6144) off S1x2048.size inb).emb x) := by
  subst h
  have h1 : (x 1).val < 2048 := (x 1).isLt
  have e1 : ((Rect.unit (s := S1x6144) ![0, 2048 * k.val] S1x2048.size inb).emb x 1).val = 2048 * k.val + (x 1).val := by
    show 2048 * k.val + 1 * (x 1).val = _; omega
  unfold row
  refine congr (congrArg V (Fin.ext ?_)) ?_
  · show k.val = ((Rect.unit (s := S1x6144) ![0, 2048 * k.val] S1x2048.size inb).emb x 1).val / 2048
    rw [e1]; omega
  · funext a
    match a with
    | ⟨0, _⟩ =>
      refine Fin.ext ?_
      show (x 0).val = 0 + 1 * (x 0).val
      omega
    | ⟨1, _⟩ =>
      refine Fin.ext ?_
      show (x 1).val = ((Rect.unit (s := S1x6144) ![0, 2048 * k.val] S1x2048.size inb).emb x 1).val % 2048
      rw [e1]; omega

/-- A block of an array's rows, read through the block's slice. -/
theorem read_block {e : EltTy} (M : Memref sig .tc .hbm S6144x2048 e) (i : Fin 6) {off : Fin 2 → ℕ}
    (inb : ∀ a, off a + S1024x2048.size a ≤ S6144x2048.size a) (h : off = ![1024 * i.val, 0]) (f : M.view.ty.Contents (Elt F)) (y : S1024x2048.Idx) :
    (M.slice (Rect.unit (s := S6144x2048) off S1024x2048.size inb) (fun _ => rfl)).view.read (Elt F) f y = M.view.read (Elt F) f
      (ValueIdx.ix2 ⟨1024 * i.val + (y 0).val, by have h : (y 0).val < 1024 := (y 0).isLt; omega⟩ (y 1)) := by
  subst h
  refine congrArg (M.view.read (Elt F) f) (funext fun a => ?_)
  match a with
  | ⟨0, _⟩ => exact Fin.ext (congrArg (_ + ·) (Nat.one_mul _))
  | ⟨1, _⟩ => exact Fin.ext ((Nat.zero_add _).trans (Nat.one_mul _))

/-- The stacked blocks at a row of block `i` are block `i` at the row inside it. -/
theorem stack_blk {α : Type} (X : Fin 6 → S1024x2048.Idx → α) (i : Fin 6) (y : S1024x2048.Idx) :
    stack X (ValueIdx.ix2 ⟨1024 * i.val + (y 0).val, by have h : (y 0).val < 1024 := (y 0).isLt; omega⟩ (y 1)) = X i y := by
  have h0 : (y 0).val < 1024 := (y 0).isLt
  unfold stack
  refine congr (congrArg X (Fin.ext ?_)) (funext fun a => ?_)
  · show (1024 * i.val + (y 0).val) / 1024 = i.val
    omega
  · match a with
    | ⟨0, _⟩ => exact Fin.ext (by show (1024 * i.val + (y 0).val) % 1024 = (y 0).val; omega)
    | ⟨1, _⟩ => rfl

/-! ## The values the kernels compute -/

/-- Block `i` of 1024 rows. -/
def xb {α : Type} (X : S6144x2048.Idx → α) (i : Fin 6) : S1024x2048.Idx → α :=
  fun y => X (ValueIdx.ix2 ⟨1024 * i.val + (y 0).val, by have h : (y 0).val < 1024 := (y 0).isLt; omega⟩ (y 1))

/-- The sums of squares of the rows of block `i`. -/
def rowSums (X : S6144x2048.Idx → Elt F .f32) (i : Fin 6) : S1024x1.Idx → Elt F .f32 := k0_pay4 (slotV (xb X i))
/-- Chunk `ch` of a column. -/
def colChunk {α : Type} (C : S6144x1.Idx → α) (ch : Fin 3) : S2048x1.Idx → α :=
  fun j => C (ValueIdx.ix2 ⟨2048 * ch.val + (j 0).val, by have h : (j 0).val < 2048 := (j 0).isLt; omega⟩ (j 1))
/-- Chunk `ch` of the row sums, transposed by a product with a one. -/
def chunkSums (X : S6144x2048.Idx → Elt F .f32) (ch : Fin 3) : S1x2048.Idx → Elt F .f32 := k0_pay9 k0_pay1 (colChunk (col (rowSums X)) ch)
/-- The scaled rows, rounded. -/
def scaled (G : S1x2048.Idx → Elt F .f32) (X : S6144x2048.Idx → Elt F .f32) : S6144x2048.Idx → Elt F .bf16 :=
  stack fun i => unslot (k0_pay5 (k0_pay2 G) (slotV (xb X i)))
/-- The inverse roots, from the four devices' sums. -/
def invs (s0 s1 s2 s3 : Fin 3 → S1x2048.Idx → Elt F .f32) : S1x6144.Idx → Elt F .f32 :=
  row fun ch => k0_pay26 (s0 ch) (rowV (s1 ch)) (rowV (s2 ch)) (rowV (s3 ch))

/-- A chunk of the column of row sums, loaded after its two or more blocks were stored. -/
theorem load_col {sp : Space} (M : Memref sig .tc sp S6144x1 .f32) (R : Fin 6 → S1024x1.Idx → Elt F .f32) (ch : Fin 3) {off : Fin 2 → ℕ}
    (inb : ∀ a, off a + S2048x1.size a ≤ S6144x1.size a) (h : off = ![2048 * ch.val, 0]) (L : List (View.Piece (Elt F) S6144x1 .f32))
    (hL : ∀ p ∈ L, ∀ x : p.1.shape.Idx, p.2 x = col R (p.1.emb x))
    (hc : ∀ y : S6144x1.Idx, (y 0).val < 2048 * ch.val + 2048 → ∃ p ∈ L, y ∈ p.1.set) :
    M.view.readCov L (Rect.unit (s := S6144x1) off S2048x1.size inb).toLoadRect = colChunk (col R) ch := by
  subst h
  funext j
  have h0 : (j 0).val < 2048 := (j 0).isLt
  have e : (Rect.unit (s := S6144x1) ![2048 * ch.val, 0] S2048x1.size inb).toLoadRect.idx j
      = ValueIdx.ix2 ⟨2048 * ch.val + (j 0).val, by omega⟩ (j 1) := by
    funext a
    match a with
    | ⟨0, _⟩ => exact Fin.ext (congrArg (_ + ·) (Nat.one_mul _))
    | ⟨1, _⟩ => exact Fin.ext ((Nat.zero_add _).trans (Nat.one_mul _))
  refine (View.read_writes_apply_of_pieces M.view M.view.junk (col R) L hL _ (hc _ ?_)).trans (congrArg (col R) e)
  rw [e]
  show 2048 * ch.val + (j 0).val < _
  omega

/-- A row from `k` to `k + 1023` lies in the block of the column that begins at `k`. -/
theorem mem_col (k : ℕ) {off : Fin 2 → ℕ} (inb : ∀ a, off a + S1024x1.size a ≤ S6144x1.size a) (h : off = ![k, 0]) (y : S6144x1.Idx)
    (h0 : k ≤ (y 0).val) (h1 : (y 0).val < k + 1024) : y ∈ (Rect.unit (s := S6144x1) off S1024x1.size inb).set := by
  subst h
  have h2 : (y 1).val < 1 := (y 1).isLt
  refine Rect.mem_set_unit.2 fun a => ?_
  match a with
  | ⟨0, _⟩ => exact ⟨h0, h1⟩
  | ⟨1, _⟩ => exact ⟨Nat.zero_le _, by show (y 1).val < 0 + 1; omega⟩

/-- A column from `k` to `k + 2047` lies in the chunk of the row that begins at `k`. -/
theorem mem_row (k : ℕ) {off : Fin 2 → ℕ} (inb : ∀ a, off a + S1x2048.size a ≤ S1x6144.size a) (h : off = ![0, k]) (y : S1x6144.Idx)
    (h0 : k ≤ (y 1).val) (h1 : (y 1).val < k + 2048) : y ∈ (Rect.unit (s := S1x6144) off S1x2048.size inb).set := by
  subst h
  have h2 : (y 0).val < 1 := (y 0).isLt
  refine Rect.mem_set_unit.2 fun a => ?_
  match a with
  | ⟨0, _⟩ => exact ⟨Nat.zero_le _, by show (y 0).val < 0 + 1; omega⟩
  | ⟨1, _⟩ => exact ⟨h0, h1⟩

/-- The first, second and third chunk of the column, loaded when two, four and six blocks were stored. -/
theorem load_col0 {sp : Space} (M : Memref sig .tc sp S6144x1 .f32) (R : Fin 6 → S1024x1.Idx → Elt F .f32) {w0 w1 : S1024x1.Idx → Elt F .f32}
    (inb : ∀ a, (![0, 0] : Fin 2 → ℕ) a + S2048x1.size a ≤ S6144x1.size a)
    (i0 : ∀ a, (![0, 0] : Fin 2 → ℕ) a + S1024x1.size a ≤ S6144x1.size a) (i1 : ∀ a, (![1024, 0] : Fin 2 → ℕ) a + S1024x1.size a ≤ S6144x1.size a)
    (h0 : w0 = R 0) (h1 : w1 = R 1) :
    M.view.readCov [⟨Rect.unit (s := S6144x1) ![1024, 0] S1024x1.size i1, w1⟩, ⟨Rect.unit (s := S6144x1) ![0, 0] S1024x1.size i0, w0⟩]
      (Rect.unit (s := S6144x1) ![0, 0] S2048x1.size inb).toLoadRect = colChunk (col R) 0 := by
  subst h0 h1
  refine load_col M R 0 inb rfl _ ?_ ?_
  · intro p hp x
    rcases List.mem_cons.1 hp with rfl | hp; · exact col_piece R 1 i1 rfl x
    rcases List.mem_singleton.1 hp with rfl; exact col_piece R 0 i0 rfl x
  · intro y hy
    have hy : (y 0).val < 2048 := hy
    by_cases h : (y 0).val < 1024
    · exact ⟨_, .tail _ (.head _), mem_col 0 i0 rfl y (Nat.zero_le _) (by omega)⟩
    · exact ⟨_, .head _, mem_col 1024 i1 rfl y (by omega) (by omega)⟩
/-- The second chunk, when four blocks were stored. -/
theorem load_col1 {sp : Space} (M : Memref sig .tc sp S6144x1 .f32) (R : Fin 6 → S1024x1.Idx → Elt F .f32) {w0 w1 w2 w3 : S1024x1.Idx → Elt F .f32}
    (inb : ∀ a, (![2048, 0] : Fin 2 → ℕ) a + S2048x1.size a ≤ S6144x1.size a)
    (i0 : ∀ a, (![0, 0] : Fin 2 → ℕ) a + S1024x1.size a ≤ S6144x1.size a) (i1 : ∀ a, (![1024, 0] : Fin 2 → ℕ) a + S1024x1.size a ≤ S6144x1.size a)
    (i2 : ∀ a, (![2048, 0] : Fin 2 → ℕ) a + S1024x1.size a ≤ S6144x1.size a) (i3 : ∀ a, (![3072, 0] : Fin 2 → ℕ) a + S1024x1.size a ≤ S6144x1.size a)
    (h0 : w0 = R 0) (h1 : w1 = R 1) (h2 : w2 = R 2) (h3 : w3 = R 3) :
    M.view.readCov [⟨Rect.unit (s := S6144x1) ![3072, 0] S1024x1.size i3, w3⟩, ⟨Rect.unit (s := S6144x1) ![2048, 0] S1024x1.size i2, w2⟩,
        ⟨Rect.unit (s := S6144x1) ![1024, 0] S1024x1.size i1, w1⟩, ⟨Rect.unit (s := S6144x1) ![0, 0] S1024x1.size i0, w0⟩]
      (Rect.unit (s := S6144x1) ![2048, 0] S2048x1.size inb).toLoadRect = colChunk (col R) 1 := by
  subst h0 h1 h2 h3
  refine load_col M R 1 inb rfl _ ?_ ?_
  · intro p hp x
    rcases List.mem_cons.1 hp with rfl | hp; · exact col_piece R 3 i3 rfl x
    rcases List.mem_cons.1 hp with rfl | hp; · exact col_piece R 2 i2 rfl x
    rcases List.mem_cons.1 hp with rfl | hp; · exact col_piece R 1 i1 rfl x
    rcases List.mem_singleton.1 hp with rfl; exact col_piece R 0 i0 rfl x
  · intro y hy
    have hy : (y 0).val < 4096 := hy
    by_cases h : (y 0).val < 1024
    · exact ⟨_, .tail _ (.tail _ (.tail _ (.head _))), mem_col 0 i0 rfl y (Nat.zero_le _) (by omega)⟩
    by_cases h : (y 0).val < 2048
    · exact ⟨_, .tail _ (.tail _ (.head _)), mem_col 1024 i1 rfl y (by omega) (by omega)⟩
    by_cases h : (y 0).val < 3072
    · exact ⟨_, .tail _ (.head _), mem_col 2048 i2 rfl y (by omega) (by omega)⟩
    · exact ⟨_, .head _, mem_col 3072 i3 rfl y (by omega) (by omega)⟩
/-- The third chunk, when all six were stored. -/
theorem load_col2 {sp : Space} (M : Memref sig .tc sp S6144x1 .f32) (R : Fin 6 → S1024x1.Idx → Elt F .f32) {w0 w1 w2 w3 w4 w5 : S1024x1.Idx → Elt F .f32}
    (inb : ∀ a, (![4096, 0] : Fin 2 → ℕ) a + S2048x1.size a ≤ S6144x1.size a)
    (i0 : ∀ a, (![0, 0] : Fin 2 → ℕ) a + S1024x1.size a ≤ S6144x1.size a) (i1 : ∀ a, (![1024, 0] : Fin 2 → ℕ) a + S1024x1.size a ≤ S6144x1.size a)
    (i2 : ∀ a, (![2048, 0] : Fin 2 → ℕ) a + S1024x1.size a ≤ S6144x1.size a) (i3 : ∀ a, (![3072, 0] : Fin 2 → ℕ) a + S1024x1.size a ≤ S6144x1.size a)
    (i4 : ∀ a, (![4096, 0] : Fin 2 → ℕ) a + S1024x1.size a ≤ S6144x1.size a) (i5 : ∀ a, (![5120, 0] : Fin 2 → ℕ) a + S1024x1.size a ≤ S6144x1.size a)
    (h0 : w0 = R 0) (h1 : w1 = R 1) (h2 : w2 = R 2) (h3 : w3 = R 3) (h4 : w4 = R 4) (h5 : w5 = R 5) :
    M.view.readCov [⟨Rect.unit (s := S6144x1) ![5120, 0] S1024x1.size i5, w5⟩, ⟨Rect.unit (s := S6144x1) ![4096, 0] S1024x1.size i4, w4⟩,
        ⟨Rect.unit (s := S6144x1) ![3072, 0] S1024x1.size i3, w3⟩, ⟨Rect.unit (s := S6144x1) ![2048, 0] S1024x1.size i2, w2⟩,
        ⟨Rect.unit (s := S6144x1) ![1024, 0] S1024x1.size i1, w1⟩, ⟨Rect.unit (s := S6144x1) ![0, 0] S1024x1.size i0, w0⟩]
      (Rect.unit (s := S6144x1) ![4096, 0] S2048x1.size inb).toLoadRect = colChunk (col R) 2 := by
  subst h0 h1 h2 h3 h4 h5
  refine load_col M R 2 inb rfl _ ?_ ?_
  · intro p hp x
    rcases List.mem_cons.1 hp with rfl | hp; · exact col_piece R 5 i5 rfl x
    rcases List.mem_cons.1 hp with rfl | hp; · exact col_piece R 4 i4 rfl x
    rcases List.mem_cons.1 hp with rfl | hp; · exact col_piece R 3 i3 rfl x
    rcases List.mem_cons.1 hp with rfl | hp; · exact col_piece R 2 i2 rfl x
    rcases List.mem_cons.1 hp with rfl | hp; · exact col_piece R 1 i1 rfl x
    rcases List.mem_singleton.1 hp with rfl; exact col_piece R 0 i0 rfl x
  · intro y hy
    have hy : (y 0).val < 6144 := (y 0).isLt
    by_cases h : (y 0).val < 1024
    · exact ⟨_, .tail _ (.tail _ (.tail _ (.tail _ (.tail _ (.head _))))), mem_col 0 i0 rfl y (Nat.zero_le _) (by omega)⟩
    by_cases h : (y 0).val < 2048
    · exact ⟨_, .tail _ (.tail _ (.tail _ (.tail _ (.head _)))), mem_col 1024 i1 rfl y (by omega) (by omega)⟩
    by_cases h : (y 0).val < 3072
    · exact ⟨_, .tail _ (.tail _ (.tail _ (.head _))), mem_col 2048 i2 rfl y (by omega) (by omega)⟩
    by_cases h : (y 0).val < 4096
    · exact ⟨_, .tail _ (.tail _ (.head _)), mem_col 3072 i3 rfl y (by omega) (by omega)⟩
    by_cases h : (y 0).val < 5120
    · exact ⟨_, .tail _ (.head _), mem_col 4096 i4 rfl y (by omega) (by omega)⟩
    · exact ⟨_, .head _, mem_col 5120 i5 rfl y (by omega) (by omega)⟩

/-- A row whose three chunks were stored, read whole. -/
theorem read_row {sp : Space} (M : Memref sig .tc sp S1x6144 .f32) (V : Fin 3 → S1x2048.Idx → Elt F .f32) {w0 w1 w2 : S1x2048.Idx → Elt F .f32}
    (f : M.view.ty.Contents (Elt F))
    (i0 : ∀ a, (![0, 0] : Fin 2 → ℕ) a + S1x2048.size a ≤ S1x6144.size a) (i1 : ∀ a, (![0, 2048] : Fin 2 → ℕ) a + S1x2048.size a ≤ S1x6144.size a)
    (i2 : ∀ a, (![0, 4096] : Fin 2 → ℕ) a + S1x2048.size a ≤ S1x6144.size a)
    (h0 : w0 = V 0) (h1 : w1 = V 1) (h2 : w2 = V 2) :
    M.view.read (Elt F) (M.view.writes (Elt F) f [⟨Rect.unit (s := S1x6144) ![0, 4096] S1x2048.size i2, w2⟩,
      ⟨Rect.unit (s := S1x6144) ![0, 2048] S1x2048.size i1, w1⟩, ⟨Rect.unit (s := S1x6144) ![0, 0] S1x2048.size i0, w0⟩]) = row V := by
  subst h0 h1 h2
  funext y
  refine View.read_writes_apply_of_pieces M.view f (row V) _ ?_ y ?_
  · intro p hp x
    rcases List.mem_cons.1 hp with rfl | hp; · exact row_piece V 2 i2 rfl x
    rcases List.mem_cons.1 hp with rfl | hp; · exact row_piece V 1 i1 rfl x
    rcases List.mem_singleton.1 hp with rfl; exact row_piece V 0 i0 rfl x
  · have hy : (y 1).val < 6144 := (y 1).isLt
    by_cases h : (y 1).val < 2048
    · exact ⟨_, .tail _ (.tail _ (.head _)), mem_row 0 i0 rfl y (Nat.zero_le _) (by omega)⟩
    by_cases h : (y 1).val < 4096
    · exact ⟨_, .tail _ (.head _), mem_row 2048 i1 rfl y (by omega) (by omega)⟩
    · exact ⟨_, .head _, mem_row 4096 i2 rfl y (by omega) (by omega)⟩

/-- Block `i` of the stacked blocks is block `i`. -/
theorem xb_stack {α : Type} (X : Fin 6 → S1024x2048.Idx → α) (i : Fin 6) : xb (stack X) i = X i := funext fun y => stack_blk X i y

/-! ## The payloads as the values' blocks -/

/-- The value stored as the row sums of the first block. -/
theorem sums0 {X : S6144x2048.Idx → Elt F .f32} {v : S1x1024x2048.Idx → Elt F .f32} (hv : v = slotV (xb X 0)) : k0_pay4 v = rowSums X 0 := by subst hv; rfl
/-- The value stored as the row sums of the second block. -/
theorem sums1 {X : S6144x2048.Idx → Elt F .f32} {v : S1x1024x2048.Idx → Elt F .f32} (hv : v = slotV (xb X 1)) : k0_pay7 v = rowSums X 1 := by subst hv; rfl
/-- The value stored as the row sums of the third block. -/
theorem sums2 {X : S6144x2048.Idx → Elt F .f32} {v : S1x1024x2048.Idx → Elt F .f32} (hv : v = slotV (xb X 2)) : k0_pay11 v = rowSums X 2 := by subst hv; rfl
/-- The value stored as the row sums of the fourth block. -/
theorem sums3 {X : S6144x2048.Idx → Elt F .f32} {v : S1x1024x2048.Idx → Elt F .f32} (hv : v = slotV (xb X 3)) : k0_pay14 v = rowSums X 3 := by subst hv; rfl
/-- The value stored as the row sums of the fifth block. -/
theorem sums4 {X : S6144x2048.Idx → Elt F .f32} {v : S1x1024x2048.Idx → Elt F .f32} (hv : v = slotV (xb X 4)) : k0_pay18 v = rowSums X 4 := by subst hv; rfl
/-- The value stored as the row sums of the sixth block. -/
theorem sums5 {X : S6144x2048.Idx → Elt F .f32} {v : S1x1024x2048.Idx → Elt F .f32} (hv : v = slotV (xb X 5)) : k0_pay21 v = rowSums X 5 := by subst hv; rfl

/-- The scaled rows of a block, staged, are the block of all scaled rows. -/
theorem scaled_val {G : S1x2048.Idx → Elt F .f32} {X : S6144x2048.Idx → Elt F .f32} {r : S1x2048.Idx → Elt F .f32} {v : S1x1024x2048.Idx → Elt F .f32} (i : Fin 6)
    (hr : r = k0_pay2 G) (hv : v = slotV (xb X i)) : unslot (k0_pay5 r v) = xb (scaled G X) i := by
  subst hr hv; exact (xb_stack (fun i => unslot (k0_pay5 (k0_pay2 G) (slotV (xb X i)))) i).symm
/-- The same for the second block, in the form in which it is stored. -/
theorem scaled_val1 {G : S1x2048.Idx → Elt F .f32} {X : S6144x2048.Idx → Elt F .f32} {r : S1x2048.Idx → Elt F .f32} {v : S1x1024x2048.Idx → Elt F .f32}
    (hr : r = k0_pay2 G) (hv : v = slotV (xb X 1)) : unslot (k0_pay8 r v) = xb (scaled G X) 1 := scaled_val 1 hr hv
/-- The same for the third block, in the form in which it is stored. -/
theorem scaled_val2 {G : S1x2048.Idx → Elt F .f32} {X : S6144x2048.Idx → Elt F .f32} {r : S1x2048.Idx → Elt F .f32} {v : S1x1024x2048.Idx → Elt F .f32}
    (hr : r = k0_pay2 G) (hv : v = slotV (xb X 2)) : unslot (k0_pay12 r v) = xb (scaled G X) 2 := scaled_val 2 hr hv
/-- The same for the fourth block, in the form in which it is stored. -/
theorem scaled_val3 {G : S1x2048.Idx → Elt F .f32} {X : S6144x2048.Idx → Elt F .f32} {r : S1x2048.Idx → Elt F .f32} {v : S1x1024x2048.Idx → Elt F .f32}
    (hr : r = k0_pay2 G) (hv : v = slotV (xb X 3)) : unslot (k0_pay15 r v) = xb (scaled G X) 3 := scaled_val 3 hr hv
/-- The same for the fifth block, in the form in which it is stored. -/
theorem scaled_val4 {G : S1x2048.Idx → Elt F .f32} {X : S6144x2048.Idx → Elt F .f32} {r : S1x2048.Idx → Elt F .f32} {v : S1x1024x2048.Idx → Elt F .f32}
    (hr : r = k0_pay2 G) (hv : v = slotV (xb X 4)) : unslot (k0_pay19 r (k0_pay17 v)) = xb (scaled G X) 4 := scaled_val 4 hr hv
/-- The same for the sixth block, in the form in which it is stored. -/
theorem scaled_val5 {G : S1x2048.Idx → Elt F .f32} {X : S6144x2048.Idx → Elt F .f32} {r : S1x2048.Idx → Elt F .f32} {v : S1x1024x2048.Idx → Elt F .f32}
    (hr : r = k0_pay2 G) (hv : v = slotV (xb X 5)) : unslot (k0_pay22 r (k0_pay20 v)) = xb (scaled G X) 5 := scaled_val 5 hr hv

/-- One chunk of the inverse roots. -/
def inv1 (p a b d : S1x2048.Idx → Elt F .f32) : S1x2048.Idx → Elt F .f32 := k0_pay26 p (rowV a) (rowV b) (rowV d)
/-- The inverse roots are their three chunks in one row. -/
theorem invs_eq (s0 s1 s2 s3 : Fin 3 → S1x2048.Idx → Elt F .f32) : invs s0 s1 s2 s3 = row fun ch => inv1 (s0 ch) (s1 ch) (s2 ch) (s3 ch) := rfl
/-- The value stored for the first chunk of inverse roots. -/
theorem inv_val0 {p p' a' b' d' : S1x2048.Idx → Elt F .f32} {a b d : S1x1x2048.Idx → Elt F .f32} (hp : p = p') (ha : a = rowV a') (hb : b = rowV b') (hd : d = rowV d') :
    k0_pay25 (k0_pay24 p a b) d = inv1 p' a' b' d' := by subst hp ha hb hd; rfl
/-- The value stored for the second chunk. -/
theorem inv_val1 {p p' a' b' d' : S1x2048.Idx → Elt F .f32} {a b d : S1x1x2048.Idx → Elt F .f32} (hp : p = p') (ha : a = rowV a') (hb : b = rowV b') (hd : d = rowV d') :
    k0_pay26 p a b d = inv1 p' a' b' d' := by subst hp ha hb hd; rfl
/-- The value stored for the third chunk. -/
theorem inv_val2 {p p' a' b' d' : S1x2048.Idx → Elt F .f32} {a b d : S1x1x2048.Idx → Elt F .f32} (hp : p = p') (ha : a = rowV a') (hb : b = rowV b') (hd : d = rowV d') :
    k0_pay27 p a b d = inv1 p' a' b' d' := by subst hp ha hb hd; rfl

/-! ## The second kernel's values -/

/-- Block `i` of a column. -/
def colB {α : Type} (C : S6144x1.Idx → α) (i : Fin 6) : S1024x1.Idx → α :=
  fun j => C (ValueIdx.ix2 ⟨1024 * i.val + (j 0).val, by have h : (j 0).val < 1024 := (j 0).isLt; omega⟩ (j 1))
/-- The rounded scaled rows times the rounded inverse roots. -/
def outs (V : S1x6144.Idx → Elt F .f32) (X : S6144x2048.Idx → Elt F .bf16) : S6144x2048.Idx → Elt F .bf16 :=
  stack fun i => unslot (k1_pay3 (colB (k1_pay2 V) i) (slotV (xb X i)))

/-- A block of a column stored whole. -/
theorem load_colB {sp : Space} (M : Memref sig .tc sp S6144x1 .f32) (C : S6144x1.Idx → Elt F .f32) (i : Fin 6) {off : Fin 2 → ℕ}
    (inb : ∀ a, off a + S1024x1.size a ≤ S6144x1.size a) (h : off = ![1024 * i.val, 0])
    (inw : ∀ a, (![0, 0] : Fin 2 → ℕ) a + S6144x1.size a ≤ S6144x1.size a) :
    M.view.readCov [⟨Rect.unit (s := S6144x1) ![0, 0] S6144x1.size inw, C⟩] (Rect.unit (s := S6144x1) off S1024x1.size inb).toLoadRect = colB C i := by
  subst h
  funext j
  have e : (Rect.unit (s := S6144x1) ![1024 * i.val, 0] S1024x1.size inb).toLoadRect.idx j
      = ValueIdx.ix2 ⟨1024 * i.val + (j 0).val, by have h : (j 0).val < 1024 := (j 0).isLt; omega⟩ (j 1) := by
    funext a
    match a with
    | ⟨0, _⟩ => exact Fin.ext (congrArg (_ + ·) (Nat.one_mul _))
    | ⟨1, _⟩ => exact Fin.ext ((Nat.zero_add _).trans (Nat.one_mul _))
  have hw : ∀ y : S6144x1.Idx, (Rect.unit (s := S6144x1) ![0, 0] S6144x1.size inw).emb y = y := fun y => by
    funext a
    match a with
    | ⟨0, _⟩ => exact Fin.ext ((Nat.zero_add _).trans (Nat.one_mul _))
    | ⟨1, _⟩ => exact Fin.ext ((Nat.zero_add _).trans (Nat.one_mul _))
  refine (View.read_writes_apply_of_pieces M.view M.view.junk C _ (fun p hp x => ?_) _ ⟨_, List.mem_singleton_self _, ?_⟩).trans (congrArg C e)
  · obtain rfl := List.mem_singleton.1 hp
    exact congrArg C (hw x).symm
  · refine (Rect.mem_set_unit (inb := inw)).2 fun a => ?_
    match a with
    | ⟨0, _⟩ => exact ⟨Nat.zero_le _, Nat.lt_of_lt_of_eq (Fin.isLt _) (Nat.zero_add _).symm⟩
    | ⟨1, _⟩ => exact ⟨Nat.zero_le _, Nat.lt_of_lt_of_eq (Fin.isLt _) (Nat.zero_add _).symm⟩

/-- The staged result of a block is the block of the whole result. -/
theorem out_val {V : S1x6144.Idx → Elt F .f32} {X : S6144x2048.Idx → Elt F .bf16} {r : S1024x1.Idx → Elt F .f32} {v : S1x1024x2048.Idx → Elt F .bf16} (i : Fin 6)
    (hr : r = colB (k1_pay2 V) i) (hv : v = slotV (xb X i)) : unslot (k1_pay3 r v) = xb (outs V X) i := by
  subst hr hv; exact (xb_stack (fun i => unslot (k1_pay3 (colB (k1_pay2 V) i) (slotV (xb X i)))) i).symm

/-! ## Blocks of an array in memory -/

/-- Reading the first block of rows of an array gives that block of its contents. -/
theorem read_blk0 {e : EltTy} {c : Dev nD} (M : Memref sig .tc .hbm S6144x2048 e) (f : Bf (F := F) c M) : (blk M 0).view.read (Elt F) f = xb (M.view.read (Elt F) f) 0 := funext (read_block M 0 _ rfl f)
/-- Reading the second block of rows of an array gives that block of its contents. -/
theorem read_blk1 {e : EltTy} {c : Dev nD} (M : Memref sig .tc .hbm S6144x2048 e) (f : Bf (F := F) c M) : (blk M 1).view.read (Elt F) f = xb (M.view.read (Elt F) f) 1 := funext (read_block M 1 _ rfl f)
/-- Reading the third block of rows of an array gives that block of its contents. -/
theorem read_blk2 {e : EltTy} {c : Dev nD} (M : Memref sig .tc .hbm S6144x2048 e) (f : Bf (F := F) c M) : (blk M 2).view.read (Elt F) f = xb (M.view.read (Elt F) f) 2 := funext (read_block M 2 _ rfl f)
/-- Reading the fourth block of rows of an array gives that block of its contents. -/
theorem read_blk3 {e : EltTy} {c : Dev nD} (M : Memref sig .tc .hbm S6144x2048 e) (f : Bf (F := F) c M) : (blk M 3).view.read (Elt F) f = xb (M.view.read (Elt F) f) 3 := funext (read_block M 3 _ rfl f)
/-- Reading the fifth block of rows of an array gives that block of its contents. -/
theorem read_blk4 {e : EltTy} {c : Dev nD} (M : Memref sig .tc .hbm S6144x2048 e) (f : Bf (F := F) c M) : (blk M 4).view.read (Elt F) f = xb (M.view.read (Elt F) f) 4 := funext (read_block M 4 _ rfl f)
/-- Reading the sixth block of rows of an array gives that block of its contents. -/
theorem read_blk5 {e : EltTy} {c : Dev nD} (M : Memref sig .tc .hbm S6144x2048 e) (f : Bf (F := F) c M) : (blk M 5).view.read (Elt F) f = xb (M.view.read (Elt F) f) 5 := funext (read_block M 5 _ rfl f)

/-- A block written whole with what `Y` has there is the block at `Y`. -/
theorem own_written {sp : Space} {S : Shape} {e : EltTy} (c : Dev nD) (M : Memref sig .tc sp S e) {f Y : Bf (F := F) c M} {x y : S.Idx → Elt F e}
    (hY : M.view.read (Elt F) Y = y) (hx : x = y) :
    (own c M (M.view.writes (Elt F) f [⟨Rect.whole S, x⟩]) : sProp 𝕄) ⊢ own c M Y :=
  Entails.of_eq (ownAt_congr c fullShare M ((View.read_writes_whole M.view f x).trans (hx.trans hY.symm)))

end Cert.Proof.Norm
-- ==== Proof.RegionA.lean ====
module

public import proofs.«01_k».proof.Proof.Protocol
public import proofs.«01_k».proof.Proof.Contents

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (PR : Sums F) (κ : GSem nD τ sig → ℕ)

/-- The first kernel's counters of local copies at zero: three of its input copies, two of its output copies. -/
abbrev semsA0 (c : Dev nD) : sProp 𝕄 :=
  iprop(semVal ((c : Thread nD τ), .dma 2) 0 ∗ semVal ((c : Thread nD τ), .dma 3) 0 ∗ semVal ((c : Thread nD τ), .dma 4) 0
    ∗ semVal ((c : Thread nD τ), .dma 5) 0 ∗ semVal ((c : Thread nD τ), .dma 6) 0)

/-- Cell `g`'s invariant, under the name that `κ` gives it. -/
abbrev inv (g : GSem nD τ sig) : sProp 𝕄 := cellInv ER (Rd PR) (κ g) g

/-- The invariants and facts of one offset, on core `c`: the peer's barrier and receive cells, the core's own send and receive cells. -/
abbrev invsAt (c : Dev nD) (o : Fin 3) : sProp 𝕄 :=
  iprop(inv PR κ (barC (nx c o))
    ∗ (inv PR κ (rcvC (nx c o) o 0) ∗ inv PR κ (rcvC (nx c o) o 1) ∗ inv PR κ (rcvC (nx c o) o 2))
    ∗ (inv PR κ (sndC c o 0) ∗ inv PR κ (sndC c o 1) ∗ inv PR κ (sndC c o 2))
    ∗ (inv PR κ (rcvC c o 0) ∗ inv PR κ (rcvC c o 1) ∗ inv PR κ (rcvC c o 2))
    ∗ reached ER (barC (nx c o)) 0
    ∗ (reached ER (sndC c o 0) 0 ∗ reached ER (sndC c o 1) 0 ∗ reached ER (sndC c o 2) 0)
    ∗ (reached ER (rcvC c o 0) 0 ∗ reached ER (rcvC c o 1) 0 ∗ reached ER (rcvC c o 2) 0))
/-- The duties core `c` pays at one offset. -/
abbrev toksAt (c : Dev nD) (o : Fin 3) : sProp 𝕄 :=
  iprop(dutyTok ER (barC (nx c o)) 0 o
    ∗ (dutyTok ER (rcvC (nx c o) o 0) 0 0 ∗ dutyTok ER (rcvC (nx c o) o 1) 0 0 ∗ dutyTok ER (rcvC (nx c o) o 2) 0 0)
    ∗ (dutyTok ER (sndC c o 0) 0 0 ∗ dutyTok ER (sndC c o 1) 0 0 ∗ dutyTok ER (sndC c o 2) 0 0))
/-- Core `c`'s positions and arrival credits at one offset. -/
abbrev posAt (c : Dev nD) (o : Fin 3) : sProp 𝕄 :=
  iprop((atPos ER (sndC c o 0) 0 ∅ 0 ∗ atPos ER (sndC c o 1) 0 ∅ 0 ∗ atPos ER (sndC c o 2) 0 ∅ 0)
    ∗ (atPos ER (rcvC c o 0) 0 ∅ 0 ∗ atPos ER (rcvC c o 1) 0 ∅ 0 ∗ atPos ER (rcvC c o 2) 0 ∅ 0)
    ∗ (cred (tallyAt (rcvC c o 0) true 256) ∗ cred (tallyAt (rcvC c o 1) true 256) ∗ cred (tallyAt (rcvC c o 2) true 256)))

attribute [local sl_rounds] duties_bar3 duties_snd duties_rcv amount_bar amount_snd amount_rcv expect_bar expect_snd expect_rcv
  payload_snd payload_rcv sndPay_eq rcvPay_eq rev_0 rev_1 rev_2 payload_bar_own0 payload_bar_own1 payload_bar_own2 nx_02 nx_11 nx_20

/-- The device that the signal addresses: one place on. -/
theorem dev1 (c : Dev nD) : (⟨k0_dev1 c, k0_dev1_lt c⟩ : Dev nD) = nx c 0 := by revert c; decide
/-- The device that the signal addresses: two places on. -/
theorem dev2 (c : Dev nD) : (⟨k0_dev2 c, k0_dev2_lt c⟩ : Dev nD) = nx c 1 := by revert c; decide
/-- The device that the signal addresses: three places on. -/
theorem dev3 (c : Dev nD) : (⟨k0_dev3 c, k0_dev3_lt c⟩ : Dev nD) = nx c 2 := by revert c; decide

/-- The device that the copy addresses: one place on. -/
theorem dev4 (c : Dev nD) : (⟨k0_dev4 c, k0_dev4_lt c⟩ : Dev nD) = nx c 0 := by revert c; decide
/-- The device that the copy addresses: two places on. -/
theorem dev5 (c : Dev nD) : (⟨k0_dev5 c, k0_dev5_lt c⟩ : Dev nD) = nx c 1 := by revert c; decide
/-- The device that the copy addresses: three places on. -/
theorem dev6 (c : Dev nD) : (⟨k0_dev6 c, k0_dev6_lt c⟩ : Dev nD) = nx c 2 := by revert c; decide
/-- The device that the copy addresses: one place on. -/
theorem dev7 (c : Dev nD) : (⟨k0_dev7 c, k0_dev7_lt c⟩ : Dev nD) = nx c 0 := by revert c; decide
/-- The device that the copy addresses: two places on. -/
theorem dev8 (c : Dev nD) : (⟨k0_dev8 c, k0_dev8_lt c⟩ : Dev nD) = nx c 1 := by revert c; decide
/-- The device that the copy addresses: three places on. -/
theorem dev9 (c : Dev nD) : (⟨k0_dev9 c, k0_dev9_lt c⟩ : Dev nD) = nx c 2 := by revert c; decide
/-- The device that the copy addresses: one place on. -/
theorem dev10 (c : Dev nD) : (⟨k0_dev10 c, k0_dev10_lt c⟩ : Dev nD) = nx c 0 := by revert c; decide
/-- The device that the copy addresses: two places on. -/
theorem dev11 (c : Dev nD) : (⟨k0_dev11 c, k0_dev11_lt c⟩ : Dev nD) = nx c 1 := by revert c; decide
/-- The device that the copy addresses: three places on. -/
theorem dev12 (c : Dev nD) : (⟨k0_dev12 c, k0_dev12_lt c⟩ : Dev nD) = nx c 2 := by revert c; decide

/-- Core `c`'s positions at one offset once its nine transfers' waits are done. -/
abbrev doneAt (c : Dev nD) (o : Fin 3) : sProp 𝕄 :=
  iprop((atPos ER (sndC c o 0) 1 ∅ 0 ∗ atPos ER (sndC c o 1) 1 ∅ 0 ∗ atPos ER (sndC c o 2) 1 ∅ 0)
    ∗ (atPos ER (rcvC c o 0) 1 ∅ 0 ∗ atPos ER (rcvC c o 1) 1 ∅ 0 ∗ atPos ER (rcvC c o 2) 1 ∅ 0))

/-- What the first kernel leaves on core `c`, the row of inverse roots aside. -/
abbrev doneA (c : Dev nD) (M0 : Memref sig .tc .vmem S1x2048 .f32) (M1 : Memref sig .tc .vmem S1x6144 .f32)
    (fg : Bf (F := F) c M0) (fx : Bf (F := F) c (Memref.whole main_arg0)) : sProp 𝕄 :=
  iprop(pt c M0 fg ∗ (∃ f : Bf (F := F) c M1, ⌜M1.view.read (Elt F) f = invs (PR c) (PR (nx c 2)) (PR (nx c 1)) (PR (nx c 0))⌝ ∗ pt c M1 f)
    ∗ (own c (blk (Memref.whole main_arg0) 0) fx ∗ own c (blk (Memref.whole main_arg0) 1) fx ∗ own c (blk (Memref.whole main_arg0) 2) fx
        ∗ own c (blk (Memref.whole main_arg0) 3) fx ∗ own c (blk (Memref.whole main_arg0) 4) fx ∗ own c (blk (Memref.whole main_arg0) 5) fx)
    ∗ (own c (blk (Memref.whole main_v2_0) 0) (scaled (M0.view.read (Elt F) fg) fx) ∗ own c (blk (Memref.whole main_v2_0) 1) (scaled (M0.view.read (Elt F) fg) fx)
        ∗ own c (blk (Memref.whole main_v2_0) 2) (scaled (M0.view.read (Elt F) fg) fx) ∗ own c (blk (Memref.whole main_v2_0) 3) (scaled (M0.view.read (Elt F) fg) fx)
        ∗ own c (blk (Memref.whole main_v2_0) 4) (scaled (M0.view.read (Elt F) fg) fx) ∗ own c (blk (Memref.whole main_v2_0) 5) (scaled (M0.view.read (Elt F) fg) fx))
    ∗ (ownAny c (slot3 (Memref.whole cc0_scratch0) 0) ∗ ownAny c (slot3 (Memref.whole cc0_scratch0) 1) ∗ ownAny c (slot3 (Memref.whole cc0_scratch0) 2))
    ∗ (ownAny c (slot2 (Memref.whole cc0_scratch1) 0) ∗ ownAny c (slot2 (Memref.whole cc0_scratch1) 1))
    ∗ (∃ f, pt c (Memref.whole cc0_scratch2) f)
    ∗ (ownAny c (prow 0) ∗ ownAny c (prow 1) ∗ ownAny c (prow 2))
    ∗ (ownAny c (crow 0 0) ∗ ownAny c (crow 0 1) ∗ ownAny c (crow 0 2) ∗ ownAny c (crow 1 0) ∗ ownAny c (crow 1 1) ∗ ownAny c (crow 1 2)
        ∗ ownAny c (crow 2 0) ∗ ownAny c (crow 2 1) ∗ ownAny c (crow 2 2))
    ∗ (atPos ER (barC c) 1 ∅ 0 ∗ doneAt c 0 ∗ doneAt c 1 ∗ doneAt c 2)
    ∗ semsA0 c ∗ ∃ W, owes (c : Thread nD τ) 0 W)

/-- What the barrier hands over, opened. -/
theorem bar_open (c : Dev nD) :
    (BI.sep (rowPay (F := F) (nx c 2) 2) (BI.sep (rowPay (nx c 1) 1) (rowPay (nx c 0) 0)) : sProp 𝕄)
      ⊢ iprop(((∃ f : Bf (F := F) (nx c 2) (crow 2 0), (crow 2 0).view.loc ((nx c 2 : Dev nD) : Thread nD τ) ↦[(crow 2 0).view.set]{fullShare} f) ∗ (∃ f : Bf (F := F) (nx c 2) (crow 2 1), (crow 2 1).view.loc ((nx c 2 : Dev nD) : Thread nD τ) ↦[(crow 2 1).view.set]{fullShare} f) ∗ (∃ f : Bf (F := F) (nx c 2) (crow 2 2), (crow 2 2).view.loc ((nx c 2 : Dev nD) : Thread nD τ) ↦[(crow 2 2).view.set]{fullShare} f)
          ∗ reached ER (rcvC (nx c 2) 2 0) 0 ∗ reached ER (rcvC (nx c 2) 2 1) 0 ∗ reached ER (rcvC (nx c 2) 2 2) 0)
        ∗ ((∃ f : Bf (F := F) (nx c 1) (crow 1 0), (crow 1 0).view.loc ((nx c 1 : Dev nD) : Thread nD τ) ↦[(crow 1 0).view.set]{fullShare} f) ∗ (∃ f : Bf (F := F) (nx c 1) (crow 1 1), (crow 1 1).view.loc ((nx c 1 : Dev nD) : Thread nD τ) ↦[(crow 1 1).view.set]{fullShare} f) ∗ (∃ f : Bf (F := F) (nx c 1) (crow 1 2), (crow 1 2).view.loc ((nx c 1 : Dev nD) : Thread nD τ) ↦[(crow 1 2).view.set]{fullShare} f)
          ∗ reached ER (rcvC (nx c 1) 1 0) 0 ∗ reached ER (rcvC (nx c 1) 1 1) 0 ∗ reached ER (rcvC (nx c 1) 1 2) 0)
        ∗ ((∃ f : Bf (F := F) (nx c 0) (crow 0 0), (crow 0 0).view.loc ((nx c 0 : Dev nD) : Thread nD τ) ↦[(crow 0 0).view.set]{fullShare} f) ∗ (∃ f : Bf (F := F) (nx c 0) (crow 0 1), (crow 0 1).view.loc ((nx c 0 : Dev nD) : Thread nD τ) ↦[(crow 0 1).view.set]{fullShare} f) ∗ (∃ f : Bf (F := F) (nx c 0) (crow 0 2), (crow 0 2).view.loc ((nx c 0 : Dev nD) : Thread nD τ) ↦[(crow 0 2).view.set]{fullShare} f)
          ∗ reached ER (rcvC (nx c 0) 0 0) 0 ∗ reached ER (rcvC (nx c 0) 0 1) 0 ∗ reached ER (rcvC (nx c 0) 0 2) 0)) := .rfl

set_option maxHeartbeats 400000 in
/-- The first kernel's body on core `c`, from its buffers in their parts and its side of the protocol: it ends with the row sums exchanged, the scaled rows in the array and the inverse roots of all devices' sums in its output window. -/
theorem runA (c : Dev nD) (M0 : Memref sig .tc .vmem S1x2048 .f32) (h0 : M0.IsWhole) (M1 : Memref sig .tc .vmem S1x6144 .f32) (h1 : M1.IsWhole)
    (fg : Bf (F := F) c M0) (fi : Bf (F := F) c M1) (fx : Bf (F := F) c (Memref.whole main_arg0)) (fo : Bf (F := F) c (Memref.whole main_v2_0))
    (g0 : Bf (F := F) c (Memref.whole cc0_scratch0)) (g1 : Bf (F := F) c (Memref.whole cc0_scratch1)) (g2 : Bf (F := F) c (Memref.whole cc0_scratch2))
    (g3 : Bf (F := F) c (Memref.whole cc0_scratch3))
    (W : Waits sig Bool) (hPR : PR c = chunkSums fx) (Q : PUnit → sProp 𝕄) :
    iprop(pt c M0 fg ∗ pt c M1 fi
      ∗ (own c (blk (Memref.whole main_arg0) 0) fx ∗ own c (blk (Memref.whole main_arg0) 1) fx ∗ own c (blk (Memref.whole main_arg0) 2) fx
        ∗ own c (blk (Memref.whole main_arg0) 3) fx ∗ own c (blk (Memref.whole main_arg0) 4) fx ∗ own c (blk (Memref.whole main_arg0) 5) fx)
      ∗ (own c (blk (Memref.whole main_v2_0) 0) fo ∗ own c (blk (Memref.whole main_v2_0) 1) fo ∗ own c (blk (Memref.whole main_v2_0) 2) fo
        ∗ own c (blk (Memref.whole main_v2_0) 3) fo ∗ own c (blk (Memref.whole main_v2_0) 4) fo ∗ own c (blk (Memref.whole main_v2_0) 5) fo)
      ∗ (own c (slot3 (Memref.whole cc0_scratch0) 0) g0 ∗ own c (slot3 (Memref.whole cc0_scratch0) 1) g0 ∗ own c (slot3 (Memref.whole cc0_scratch0) 2) g0)
      ∗ (own c (slot2 (Memref.whole cc0_scratch1) 0) g1 ∗ own c (slot2 (Memref.whole cc0_scratch1) 1) g1)
      ∗ pt c (Memref.whole cc0_scratch2) g2
      ∗ (own c (prow 0) g3 ∗ own c (prow 1) g3 ∗ own c (prow 2) g3)
      ∗ (rowPay c 0 ∗ rowPay c 1 ∗ rowPay c 2)
      ∗ (inv PR κ (barC c) ∗ invsAt PR κ c 0 ∗ invsAt PR κ c 1 ∗ invsAt PR κ c 2)
      ∗ (toksAt c 0 ∗ toksAt c 1 ∗ toksAt c 2)
      ∗ (atPos ER (barC c) 0 ∅ 0 ∗ cred (tallyAt (barC c) true 3) ∗ posAt c 0 ∗ posAt c 1 ∗ posAt c 2)
      ∗ levAts L lv
      ∗ semsA0 c ∗ owes (c : Thread nD τ) (oR c 2 + oR c 1 + oR c 0 + tallyAt (barC (nx c 2)) true 1 + tallyAt (barC (nx c 1)) true 1 + tallyAt (barC (nx c 0)) true 1) W
      ∗ (doneA PR c M0 M1 fg fx -∗ Q ⟨⟩))
    ⊢ wp frame (wpE (defs₀ (F := F)) Variants.none c none) Set.univ
        (cc0_body (Memref.whole main_arg0) (Memref.isWhole_whole _) M0 h0 (Memref.whole main_v2_0) (Memref.isWhole_whole _) M1 h1
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scratch7 cc0_scratch8) Q := by
  iintro ⟨HG, HV, ⟨Hx0, Hx1, Hx2, Hx3, Hx4, Hx5⟩, ⟨Ho0, Ho1, Ho2, Ho3, Ho4, Ho5⟩, ⟨Hb0, Hb1, Hb2⟩, ⟨Hs0, Hs1⟩, Hpc, ⟨Hp0, Hp1, Hp2⟩,
    ⟨Hc0, Hc1, Hc2⟩,
    ⟨#IB, ⟨#IB0, ⟨#IR00, #IR01, #IR02⟩, ⟨#IS00, #IS01, #IS02⟩, ⟨#IM00, #IM01, #IM02⟩, #RB0, ⟨#RS00, #RS01, #RS02⟩, ⟨#RR00, #RR01, #RR02⟩⟩,
      ⟨#IB1, ⟨#IR10, #IR11, #IR12⟩, ⟨#IS10, #IS11, #IS12⟩, ⟨#IM10, #IM11, #IM12⟩, #RB1, ⟨#RS10, #RS11, #RS12⟩, ⟨#RR10, #RR11, #RR12⟩⟩,
      ⟨#IB2, ⟨#IR20, #IR21, #IR22⟩, ⟨#IS20, #IS21, #IS22⟩, ⟨#IM20, #IM21, #IM22⟩, #RB2, ⟨#RS20, #RS21, #RS22⟩, ⟨#RR20, #RR21, #RR22⟩⟩⟩,
    ⟨⟨TB0, ⟨TR00, TR01, TR02⟩, ⟨TS00, TS01, TS02⟩⟩, ⟨TB1, ⟨TR10, TR11, TR12⟩, ⟨TS10, TS11, TS12⟩⟩, ⟨TB2, ⟨TR20, TR21, TR22⟩, ⟨TS20, TS21, TS22⟩⟩⟩,
    ⟨AB, CB, ⟨⟨AS00, AS01, AS02⟩, ⟨AR00, AR01, AR02⟩, ⟨CR00, CR01, CR02⟩⟩, ⟨⟨AS10, AS11, AS12⟩, ⟨AR10, AR11, AR12⟩, ⟨CR10, CR11, CR12⟩⟩,
      ⟨⟨AS20, AS21, AS22⟩, ⟨AR20, AR21, AR22⟩, ⟨CR20, CR21, CR22⟩⟩⟩,
    #HL, ⟨Hd2, Hd3, Hd4, Hd5, Hd6⟩, HO, Hk⟩
  ihave #MB := (mayWait_bar c (onRcv_add (onRcv_add (onRcv_oR c 2) (onRcv_oR c 1)) (onRcv_oR c 0))) $$ HL
  ihave #M3 := (mayWaits_own c (onRcv_add (onRcv_add (onRcv_oR c 2) (onRcv_oR c 1)) (onRcv_oR c 0))) $$ HL
  ihave #M2 := (mayWaits_own c (onRcv_add (onRcv_oR c 2) (onRcv_oR c 1))) $$ HL
  ihave #M1 := (mayWaits_own c (onRcv_oR c 2)) $$ HL
  have hv0 : ∀ f L, (Memref.whole cc0_scratch0).view.readAt (Elt F) (Rect.unit (s := S3x1024x2048) ![0, 0, 0] S1x1024x2048.size inb_S3x1024x2048_S1x1024x2048_0_0_0).toLoadRect
      ((slot3 (Memref.whole cc0_scratch0) 0).view.writes (Elt F) f (⟨Rect.whole S1024x2048, ReadAs.same.apply ((blk (Memref.whole main_arg0) 0).view.read (Elt F) fx)⟩ :: L))
      = slotV (xb fx 0) := fun f L => (load_slot _ _ squeezes_S1x1024x2048_S1024x2048 f _ L).trans (congrArg slotV (read_blk0 (Memref.whole main_arg0) fx))
  have hv1 : ∀ f L, (Memref.whole cc0_scratch0).view.readAt (Elt F) (Rect.unit (s := S3x1024x2048) ![1, 0, 0] S1x1024x2048.size inb_S3x1024x2048_S1x1024x2048_1_0_0).toLoadRect
      ((slot3 (Memref.whole cc0_scratch0) 1).view.writes (Elt F) f (⟨Rect.whole S1024x2048, ReadAs.same.apply ((blk (Memref.whole main_arg0) 1).view.read (Elt F) fx)⟩ :: L))
      = slotV (xb fx 1) := fun f L => (load_slot _ _ squeezes_S1x1024x2048_S1024x2048 f _ L).trans (congrArg slotV (read_blk1 (Memref.whole main_arg0) fx))
  have hv2 : ∀ f L, (Memref.whole cc0_scratch0).view.readAt (Elt F) (Rect.unit (s := S3x1024x2048) ![2, 0, 0] S1x1024x2048.size inb_S3x1024x2048_S1x1024x2048_2_0_0).toLoadRect
      ((slot3 (Memref.whole cc0_scratch0) 2).view.writes (Elt F) f (⟨Rect.whole S1024x2048, ReadAs.same.apply ((blk (Memref.whole main_arg0) 2).view.read (Elt F) fx)⟩ :: L))
      = slotV (xb fx 2) := fun f L => (load_slot _ _ squeezes_S1x1024x2048_S1024x2048 f _ L).trans (congrArg slotV (read_blk2 (Memref.whole main_arg0) fx))
  have hv3 : ∀ f L, (Memref.whole cc0_scratch0).view.readAt (Elt F) (Rect.unit (s := S3x1024x2048) ![0, 0, 0] S1x1024x2048.size inb_S3x1024x2048_S1x1024x2048_0_0_0).toLoadRect
      ((slot3 (Memref.whole cc0_scratch0) 0).view.writes (Elt F) f (⟨Rect.whole S1024x2048, ReadAs.same.apply ((blk (Memref.whole main_arg0) 3).view.read (Elt F) fx)⟩ :: L))
      = slotV (xb fx 3) := fun f L => (load_slot _ _ squeezes_S1x1024x2048_S1024x2048 f _ L).trans (congrArg slotV (read_blk3 (Memref.whole main_arg0) fx))
  have hv4 : ∀ f L, (Memref.whole cc0_scratch0).view.readAt (Elt F) (Rect.unit (s := S3x1024x2048) ![1, 0, 0] S1x1024x2048.size inb_S3x1024x2048_S1x1024x2048_1_0_0).toLoadRect
      ((slot3 (Memref.whole cc0_scratch0) 1).view.writes (Elt F) f (⟨Rect.whole S1024x2048, ReadAs.same.apply ((blk (Memref.whole main_arg0) 4).view.read (Elt F) fx)⟩ :: L))
      = slotV (xb fx 4) := fun f L => (load_slot _ _ squeezes_S1x1024x2048_S1024x2048 f _ L).trans (congrArg slotV (read_blk4 (Memref.whole main_arg0) fx))
  have hv5 : ∀ f L, (Memref.whole cc0_scratch0).view.readAt (Elt F) (Rect.unit (s := S3x1024x2048) ![2, 0, 0] S1x1024x2048.size inb_S3x1024x2048_S1x1024x2048_2_0_0).toLoadRect
      ((slot3 (Memref.whole cc0_scratch0) 2).view.writes (Elt F) f (⟨Rect.whole S1024x2048, ReadAs.same.apply ((blk (Memref.whole main_arg0) 5).view.read (Elt F) fx)⟩ :: L))
      = slotV (xb fx 5) := fun f L => (load_slot _ _ squeezes_S1x1024x2048_S1024x2048 f _ L).trans (congrArg slotV (read_blk5 (Memref.whole main_arg0) fx))
  have hr : k0_pay2 (M0.view.readAt (Elt F) (Rect.unit (s := S1x2048) ![0, 0] S1x2048.size inb_S1x2048_S1x2048_0_0).toLoadRect fg) = k0_pay2 (M0.view.read (Elt F) fg) :=
    congrArg k0_pay2 (View.readAt_full _ _ _)
  have hw00 : ∀ f d, (Memref.whole cc0_scratch4).view.readAt (Elt F) (Rect.unit (s := S3x1x6144) ![0, 0, 0] S1x1x2048.size inb_S3x1x6144_S1x1x2048_0_0_0).toLoadRect
      ((crow 0 0).view.write (Elt F) f ((prow 0).view.read (Elt F) ((prow 0).view.rep (PR d 0))) Finset.univ) = rowV (PR d 0) :=
    fun f d => (load_row _ _ squeezes_S1x1x2048_S1x2048 f _).trans (congrArg rowV (View.read_rep _ _))
  have hw01 : ∀ f d, (Memref.whole cc0_scratch4).view.readAt (Elt F) (Rect.unit (s := S3x1x6144) ![0, 0, 2048] S1x1x2048.size inb_S3x1x6144_S1x1x2048_0_0_2048).toLoadRect
      ((crow 0 1).view.write (Elt F) f ((prow 1).view.read (Elt F) ((prow 1).view.rep (PR d 1))) Finset.univ) = rowV (PR d 1) :=
    fun f d => (load_row _ _ squeezes_S1x1x2048_S1x2048 f _).trans (congrArg rowV (View.read_rep _ _))
  have hw02 : ∀ f d, (Memref.whole cc0_scratch4).view.readAt (Elt F) (Rect.unit (s := S3x1x6144) ![0, 0, 4096] S1x1x2048.size inb_S3x1x6144_S1x1x2048_0_0_4096).toLoadRect
      ((crow 0 2).view.write (Elt F) f ((prow 2).view.read (Elt F) ((prow 2).view.rep (PR d 2))) Finset.univ) = rowV (PR d 2) :=
    fun f d => (load_row _ _ squeezes_S1x1x2048_S1x2048 f _).trans (congrArg rowV (View.read_rep _ _))
  have hw10 : ∀ f d, (Memref.whole cc0_scratch4).view.readAt (Elt F) (Rect.unit (s := S3x1x6144) ![1, 0, 0] S1x1x2048.size inb_S3x1x6144_S1x1x2048_1_0_0).toLoadRect
      ((crow 1 0).view.write (Elt F) f ((prow 0).view.read (Elt F) ((prow 0).view.rep (PR d 0))) Finset.univ) = rowV (PR d 0) :=
    fun f d => (load_row _ _ squeezes_S1x1x2048_S1x2048 f _).trans (congrArg rowV (View.read_rep _ _))
  have hw11 : ∀ f d, (Memref.whole cc0_scratch4).view.readAt (Elt F) (Rect.unit (s := S3x1x6144) ![1, 0, 2048] S1x1x2048.size inb_S3x1x6144_S1x1x2048_1_0_2048).toLoadRect
      ((crow 1 1).view.write (Elt F) f ((prow 1).view.read (Elt F) ((prow 1).view.rep (PR d 1))) Finset.univ) = rowV (PR d 1) :=
    fun f d => (load_row _ _ squeezes_S1x1x2048_S1x2048 f _).trans (congrArg rowV (View.read_rep _ _))
  have hw12 : ∀ f d, (Memref.whole cc0_scratch4).view.readAt (Elt F) (Rect.unit (s := S3x1x6144) ![1, 0, 4096] S1x1x2048.size inb_S3x1x6144_S1x1x2048_1_0_4096).toLoadRect
      ((crow 1 2).view.write (Elt F) f ((prow 2).view.read (Elt F) ((prow 2).view.rep (PR d 2))) Finset.univ) = rowV (PR d 2) :=
    fun f d => (load_row _ _ squeezes_S1x1x2048_S1x2048 f _).trans (congrArg rowV (View.read_rep _ _))
  have hw20 : ∀ f d, (Memref.whole cc0_scratch4).view.readAt (Elt F) (Rect.unit (s := S3x1x6144) ![2, 0, 0] S1x1x2048.size inb_S3x1x6144_S1x1x2048_2_0_0).toLoadRect
      ((crow 2 0).view.write (Elt F) f ((prow 0).view.read (Elt F) ((prow 0).view.rep (PR d 0))) Finset.univ) = rowV (PR d 0) :=
    fun f d => (load_row _ _ squeezes_S1x1x2048_S1x2048 f _).trans (congrArg rowV (View.read_rep _ _))
  have hw21 : ∀ f d, (Memref.whole cc0_scratch4).view.readAt (Elt F) (Rect.unit (s := S3x1x6144) ![2, 0, 2048] S1x1x2048.size inb_S3x1x6144_S1x1x2048_2_0_2048).toLoadRect
      ((crow 2 1).view.write (Elt F) f ((prow 1).view.read (Elt F) ((prow 1).view.rep (PR d 1))) Finset.univ) = rowV (PR d 1) :=
    fun f d => (load_row _ _ squeezes_S1x1x2048_S1x2048 f _).trans (congrArg rowV (View.read_rep _ _))
  have hw22 : ∀ f d, (Memref.whole cc0_scratch4).view.readAt (Elt F) (Rect.unit (s := S3x1x6144) ![2, 0, 4096] S1x1x2048.size inb_S3x1x6144_S1x1x2048_2_0_4096).toLoadRect
      ((crow 2 2).view.write (Elt F) f ((prow 2).view.read (Elt F) ((prow 2).view.rep (PR d 2))) Finset.univ) = rowV (PR d 2) :=
    fun f d => (load_row _ _ squeezes_S1x1x2048_S1x2048 f _).trans (congrArg rowV (View.read_rep _ _))
  have hp0 : ∀ d, (Memref.whole cc0_scratch3).view.readAt (Elt F) (Rect.unit (s := S1x6144) ![0, 0] S1x2048.size inb_S1x6144_S1x2048_0_0).toLoadRect
      ((prow 0).view.rep (PR d 0)) = PR d 0 := fun d => Memref.readAt_slice_rep _ _ rfl _ _
  have hp1 : ∀ d, (Memref.whole cc0_scratch3).view.readAt (Elt F) (Rect.unit (s := S1x6144) ![0, 2048] S1x2048.size inb_S1x6144_S1x2048_0_2048).toLoadRect
      ((prow 1).view.rep (PR d 1)) = PR d 1 := fun d => Memref.readAt_slice_rep _ _ rfl _ _
  have hp2 : ∀ d, (Memref.whole cc0_scratch3).view.readAt (Elt F) (Rect.unit (s := S1x6144) ![0, 4096] S1x2048.size inb_S1x6144_S1x2048_0_4096).toLoadRect
      ((prow 2).view.rep (PR d 2)) = PR d 2 := fun d => Memref.readAt_slice_rep _ _ rfl _ _
  have e1 := dev1 c
  have e2 := dev2 c
  have e3 := dev3 c
  have e4 := dev4 c
  have e5 := dev5 c
  have e6 := dev6 c
  have e7 := dev7 c
  have e8 := dev8 c
  have e9 := dev9 c
  have e10 := dev10 c
  have e11 := dev11 c
  have e12 := dev12 c
  sl_exec
  ihave AB := (bar_open c) $$ AB_pay1
  icases AB with ⟨⟨⟨%f20, D20⟩, ⟨%f21, D21⟩, ⟨%f22, D22⟩, #Q20, #Q21, #Q22⟩, ⟨⟨%f10, D10⟩, ⟨%f11, D11⟩, ⟨%f12, D12⟩, #Q10, #Q11, #Q12⟩,
    ⟨⟨%f00, D00⟩, ⟨%f01, D01⟩, ⟨%f02, D02⟩, #Q00, #Q01, #Q02⟩⟩
  ihave HP0 := (sums_lend PR c 0) $$ Hp0
  ihave ⟨P00, P01, P02⟩ := HP0 $$ %(by
    refine (View.read_write_univ _ _).trans ?_
    rw [hPR]
    refine congrArg (k0_pay9 k0_pay1) ?_
    exact load_col0 (Memref.whole cc0_scratch2) (rowSums fx) _ _ _ (sums0 rfl) (sums1 rfl))
  ihave HO := (owes_peel c 0 _ _) $$ HO
  sl_exec
  ihave HP1 := (sums_lend PR c 1) $$ Hp1
  ihave ⟨P10, P11, P12⟩ := HP1 $$ %(by
    refine (View.read_write_univ _ _).trans ?_
    rw [hPR]
    refine congrArg (k0_pay16 k0_pay1) ?_
    exact load_col1 (Memref.whole cc0_scratch2) (rowSums fx) _ _ _ _ _ (sums0 rfl) (sums1 rfl) (sums2 rfl) (sums3 rfl))
  ihave HO := (owes_peel c 1 _ _) $$ HO
  sl_exec
  ihave HP2 := (sums_lend PR c 2) $$ Hp2
  ihave ⟨P20, P21, P22⟩ := HP2 $$ %(by
    refine (View.read_write_univ _ _).trans ?_
    rw [hPR]
    refine congrArg (k0_pay23 k0_pay1) ?_
    exact load_col2 (Memref.whole cc0_scratch2) (rowSums fx) _ _ _ _ _ _ _ (sums0 rfl) (sums1 rfl) (sums2 rfl) (sums3 rfl) (sums4 rfl) (sums5 rfl))
  ihave HO := (owes_peel_last c 2 _) $$ HO
  sl_exec
  sl_exec
  sl_exec
  sl_step
  iapply Hk
  ihave P0 := (sums_back PR c 0) $$ [AS00_pay1 AS10_pay1 AS20_pay1]
  · isplitl [AS00_pay1]; · iexact AS00_pay1
    isplitl [AS10_pay1]; · iexact AS10_pay1
    iexact AS20_pay1
  ihave P1 := (sums_back PR c 1) $$ [AS01_pay1 AS11_pay1 AS21_pay1]
  · isplitl [AS01_pay1]; · iexact AS01_pay1
    isplitl [AS11_pay1]; · iexact AS11_pay1
    iexact AS21_pay1
  ihave P2 := (sums_back PR c 2) $$ [AS02_pay1 AS12_pay1 AS22_pay1]
  · isplitl [AS02_pay1]; · iexact AS02_pay1
    isplitl [AS12_pay1]; · iexact AS12_pay1
    iexact AS22_pay1
  ihave Ho0 := (own_written c (blk (Memref.whole main_v2_0) 0) (read_blk0 (c := c) (Memref.whole main_v2_0) (scaled (M0.view.read (Elt F) fg) fx)) ?_) $$ Ho0
  · exact (read_stage (Memref.whole cc0_scratch1) _ squeezes_S1x1024x2048_S1024x2048 _ _).trans (scaled_val 0 hr rfl)
  ihave Ho1 := (own_written c (blk (Memref.whole main_v2_0) 1) (read_blk1 (c := c) (Memref.whole main_v2_0) (scaled (M0.view.read (Elt F) fg) fx)) ?_) $$ Ho1
  · exact (read_stage (Memref.whole cc0_scratch1) _ squeezes_S1x1024x2048_S1024x2048 _ _).trans (scaled_val1 hr rfl)
  ihave Ho2 := (own_written c (blk (Memref.whole main_v2_0) 2) (read_blk2 (c := c) (Memref.whole main_v2_0) (scaled (M0.view.read (Elt F) fg) fx)) ?_) $$ Ho2
  · exact (read_stage (Memref.whole cc0_scratch1) _ squeezes_S1x1024x2048_S1024x2048 _ _).trans (scaled_val2 hr rfl)
  ihave Ho3 := (own_written c (blk (Memref.whole main_v2_0) 3) (read_blk3 (c := c) (Memref.whole main_v2_0) (scaled (M0.view.read (Elt F) fg) fx)) ?_) $$ Ho3
  · exact (read_stage (Memref.whole cc0_scratch1) _ squeezes_S1x1024x2048_S1024x2048 _ _).trans (scaled_val3 hr rfl)
  ihave Ho4 := (own_written c (blk (Memref.whole main_v2_0) 4) (read_blk4 (c := c) (Memref.whole main_v2_0) (scaled (M0.view.read (Elt F) fg) fx)) ?_) $$ Ho4
  · exact (read_stage (Memref.whole cc0_scratch1) _ squeezes_S1x1024x2048_S1024x2048 _ _).trans (scaled_val4 hr rfl)
  ihave Ho5 := (own_written c (blk (Memref.whole main_v2_0) 5) (read_blk5 (c := c) (Memref.whole main_v2_0) (scaled (M0.view.read (Elt F) fg) fx)) ?_) $$ Ho5
  · exact (read_stage (Memref.whole cc0_scratch1) _ squeezes_S1x1024x2048_S1024x2048 _ _).trans (scaled_val5 hr rfl)
  isplitl [HG]; · iexact HG
  isplitl [HV]
  · iexists _; isplitr
    swap; · iexact HV
    ipureintro
    exact (read_row M1 (fun ch => inv1 (PR c ch) (PR (nx c 2) ch) (PR (nx c 1) ch) (PR (nx c 0) ch)) fi _ _ _
      (inv_val0 rfl rfl rfl rfl) (inv_val1 rfl rfl rfl rfl) (inv_val2 rfl rfl rfl rfl))
  isplitl [Hx0 Hx1 Hx2 Hx3 Hx4 Hx5]
  · isplitl [Hx0]; · iexact Hx0
    isplitl [Hx1]; · iexact Hx1
    isplitl [Hx2]; · iexact Hx2
    isplitl [Hx3]; · iexact Hx3
    isplitl [Hx4]; · iexact Hx4
    iexact Hx5
  isplitl [Ho0 Ho1 Ho2 Ho3 Ho4 Ho5]
  · isplitl [Ho0]; · iexact Ho0
    isplitl [Ho1]; · iexact Ho1
    isplitl [Ho2]; · iexact Ho2
    isplitl [Ho3]; · iexact Ho3
    isplitl [Ho4]; · iexact Ho4
    iexact Ho5
  isplitl [Hb0 Hb1 Hb2]
  · isplitl [Hb0]; · iexists _; iexact Hb0
    isplitl [Hb1]; · iexists _; iexact Hb1
    iexists _; iexact Hb2
  isplitl [Hs0 Hs1]
  · isplitl [Hs0]; · iexists _; iexact Hs0
    iexists _; iexact Hs1
  isplitl [Hpc]; · iexists _; iexact Hpc
  isplitl [P0 P1 P2]
  · isplitl [P0]; · iexact P0
    isplitl [P1]; · iexact P1
    iexact P2
  isplitl [AR00_pay1 AR01_pay1 AR02_pay1 AR10_pay1 AR11_pay1 AR12_pay1 AR20_pay1 AR21_pay1 AR22_pay1]
  · isplitl [AR00_pay1]; · iexists _; iexact AR00_pay1
    isplitl [AR01_pay1]; · iexists _; iexact AR01_pay1
    isplitl [AR02_pay1]; · iexists _; iexact AR02_pay1
    isplitl [AR10_pay1]; · iexists _; iexact AR10_pay1
    isplitl [AR11_pay1]; · iexists _; iexact AR11_pay1
    isplitl [AR12_pay1]; · iexists _; iexact AR12_pay1
    isplitl [AR20_pay1]; · iexists _; iexact AR20_pay1
    isplitl [AR21_pay1]; · iexists _; iexact AR21_pay1
    iexists _; iexact AR22_pay1
  isplitl [AB AS00 AS01 AS02 AR00 AR01 AR02 AS10 AS11 AS12 AR10 AR11 AR12 AS20 AS21 AS22 AR20 AR21 AR22]
  · isplitl [AB]; · iexact AB
    isplitl [AS00 AS01 AS02 AR00 AR01 AR02]
    · isplitl [AS00 AS01 AS02]
      · isplitl [AS00]; · iexact AS00
        isplitl [AS01]; · iexact AS01
        iexact AS02
      isplitl [AR00]; · iexact AR00
      isplitl [AR01]; · iexact AR01
      iexact AR02
    isplitl [AS10 AS11 AS12 AR10 AR11 AR12]
    · isplitl [AS10 AS11 AS12]
      · isplitl [AS10]; · iexact AS10
        isplitl [AS11]; · iexact AS11
        iexact AS12
      isplitl [AR10]; · iexact AR10
      isplitl [AR11]; · iexact AR11
      iexact AR12
    isplitl [AS20 AS21 AS22]
    · isplitl [AS20]; · iexact AS20
      isplitl [AS21]; · iexact AS21
      iexact AS22
    isplitl [AR20]; · iexact AR20
    isplitl [AR21]; · iexact AR21
    iexact AR22
  isplitl [Hd2 Hd3 Hd4 Hd5 Hd6]
  · isplitl [Hd2]; · iexact Hd2
    isplitl [Hd3]; · iexact Hd3
    isplitl [Hd4]; · iexact Hd4
    isplitl [Hd5]; · iexact Hd5
    iexact Hd6
  iexists _; iexact HO

end Cert.Proof.Norm
-- ==== Proof.RegionB.lean ====
module

public import proofs.«01_k».proof.Proof.Contents

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- The second kernel's own counters at zero: three of its input copies, two of its output copies. -/
abbrev semsB0 (c : Dev nD) : sProp 𝕄 :=
  iprop(semVal ((c : Thread nD τ), .dma 26) 0 ∗ semVal ((c : Thread nD τ), .dma 27) 0 ∗ semVal ((c : Thread nD τ), .dma 28) 0
    ∗ semVal ((c : Thread nD τ), .dma 29) 0 ∗ semVal ((c : Thread nD τ), .dma 30) 0)

/-- What the second kernel leaves on core `c`. -/
abbrev doneB (c : Dev nD) (M0 : Memref sig .tc .vmem S1x6144 .f32) (f0 : Bf (F := F) c M0) (fx : Bf (F := F) c (Memref.whole main_v2_0)) : sProp 𝕄 :=
  iprop(pt c M0 f0
    ∗ (own c (blk (Memref.whole main_v2_0) 0) fx ∗ own c (blk (Memref.whole main_v2_0) 1) fx ∗ own c (blk (Memref.whole main_v2_0) 2) fx
      ∗ own c (blk (Memref.whole main_v2_0) 3) fx ∗ own c (blk (Memref.whole main_v2_0) 4) fx ∗ own c (blk (Memref.whole main_v2_0) 5) fx)
    ∗ (own c (blk (Memref.whole main_v3) 0) (outs (M0.view.read (Elt F) f0) fx) ∗ own c (blk (Memref.whole main_v3) 1) (outs (M0.view.read (Elt F) f0) fx)
      ∗ own c (blk (Memref.whole main_v3) 2) (outs (M0.view.read (Elt F) f0) fx) ∗ own c (blk (Memref.whole main_v3) 3) (outs (M0.view.read (Elt F) f0) fx)
      ∗ own c (blk (Memref.whole main_v3) 4) (outs (M0.view.read (Elt F) f0) fx) ∗ own c (blk (Memref.whole main_v3) 5) (outs (M0.view.read (Elt F) f0) fx))
    ∗ (ownAny c (slot3 (Memref.whole cc1_scratch0) 0) ∗ ownAny c (slot3 (Memref.whole cc1_scratch0) 1) ∗ ownAny c (slot3 (Memref.whole cc1_scratch0) 2))
    ∗ (ownAny c (slot2 (Memref.whole cc1_scratch1) 0) ∗ ownAny c (slot2 (Memref.whole cc1_scratch1) 1))
    ∗ (∃ f, pt c (Memref.whole cc1_scratch2) f)
    ∗ semsB0 c ∗ ∃ W, owes (c : Thread nD τ) 0 W)

set_option maxHeartbeats 400000 in
/-- The second kernel's run on core `c`. -/
theorem runB (c : Dev nD) (M0 : Memref sig .tc .vmem S1x6144 .f32) (h0 : M0.IsWhole)
    (f0 : Bf (F := F) c M0) (fx : Bf (F := F) c (Memref.whole main_v2_0)) (fo : Bf (F := F) c (Memref.whole main_v3))
    (g0 : Bf (F := F) c (Memref.whole cc1_scratch0)) (g1 : Bf (F := F) c (Memref.whole cc1_scratch1)) (g2 : Bf (F := F) c (Memref.whole cc1_scratch2))
    (W : Waits sig Bool) (Q : PUnit → sProp 𝕄) :
    iprop(pt c M0 f0
      ∗ (own c (blk (Memref.whole main_v2_0) 0) fx ∗ own c (blk (Memref.whole main_v2_0) 1) fx ∗ own c (blk (Memref.whole main_v2_0) 2) fx
        ∗ own c (blk (Memref.whole main_v2_0) 3) fx ∗ own c (blk (Memref.whole main_v2_0) 4) fx ∗ own c (blk (Memref.whole main_v2_0) 5) fx)
      ∗ (own c (blk (Memref.whole main_v3) 0) fo ∗ own c (blk (Memref.whole main_v3) 1) fo ∗ own c (blk (Memref.whole main_v3) 2) fo
        ∗ own c (blk (Memref.whole main_v3) 3) fo ∗ own c (blk (Memref.whole main_v3) 4) fo ∗ own c (blk (Memref.whole main_v3) 5) fo)
      ∗ (own c (slot3 (Memref.whole cc1_scratch0) 0) g0 ∗ own c (slot3 (Memref.whole cc1_scratch0) 1) g0 ∗ own c (slot3 (Memref.whole cc1_scratch0) 2) g0)
      ∗ (own c (slot2 (Memref.whole cc1_scratch1) 0) g1 ∗ own c (slot2 (Memref.whole cc1_scratch1) 1) g1)
      ∗ pt c (Memref.whole cc1_scratch2) g2
      ∗ semsB0 c ∗ owes (c : Thread nD τ) 0 W
      ∗ (doneB c M0 f0 fx -∗ Q ⟨⟩))
    ⊢ wp frame (wpE (defs₀ (F := F)) Variants.none c none) Set.univ
        (cc1_body (Memref.whole main_v2_0) (Memref.isWhole_whole _) M0 h0 (Memref.whole main_v3) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4) Q := by
  iintro ⟨H0, ⟨Hx0, Hx1, Hx2, Hx3, Hx4, Hx5⟩, ⟨Ho0, Ho1, Ho2, Ho3, Ho4, Ho5⟩, ⟨Hb0, Hb1, Hb2⟩, ⟨Hs0, Hs1⟩, Hi, ⟨Hc0, Hc1, Hc2, Hd0, Hd1⟩, HO, Hk⟩
  have hv0 : ∀ f L, (Memref.whole cc1_scratch0).view.readAt (Elt F) (Rect.unit (s := S3x1024x2048) ![0, 0, 0] S1x1024x2048.size inb_S3x1024x2048_S1x1024x2048_0_0_0).toLoadRect
      ((slot3 (Memref.whole cc1_scratch0) 0).view.writes (Elt F) f (⟨Rect.whole S1024x2048, ReadAs.same.apply ((blk (Memref.whole main_v2_0) 0).view.read (Elt F) fx)⟩ :: L))
      = slotV (xb fx 0) := fun f L => (load_slot _ _ squeezes_S1x1024x2048_S1024x2048 f _ L).trans (congrArg slotV (read_blk0 (Memref.whole main_v2_0) fx))
  have hv1 : ∀ f L, (Memref.whole cc1_scratch0).view.readAt (Elt F) (Rect.unit (s := S3x1024x2048) ![1, 0, 0] S1x1024x2048.size inb_S3x1024x2048_S1x1024x2048_1_0_0).toLoadRect
      ((slot3 (Memref.whole cc1_scratch0) 1).view.writes (Elt F) f (⟨Rect.whole S1024x2048, ReadAs.same.apply ((blk (Memref.whole main_v2_0) 1).view.read (Elt F) fx)⟩ :: L))
      = slotV (xb fx 1) := fun f L => (load_slot _ _ squeezes_S1x1024x2048_S1024x2048 f _ L).trans (congrArg slotV (read_blk1 (Memref.whole main_v2_0) fx))
  have hv2 : ∀ f L, (Memref.whole cc1_scratch0).view.readAt (Elt F) (Rect.unit (s := S3x1024x2048) ![2, 0, 0] S1x1024x2048.size inb_S3x1024x2048_S1x1024x2048_2_0_0).toLoadRect
      ((slot3 (Memref.whole cc1_scratch0) 2).view.writes (Elt F) f (⟨Rect.whole S1024x2048, ReadAs.same.apply ((blk (Memref.whole main_v2_0) 2).view.read (Elt F) fx)⟩ :: L))
      = slotV (xb fx 2) := fun f L => (load_slot _ _ squeezes_S1x1024x2048_S1024x2048 f _ L).trans (congrArg slotV (read_blk2 (Memref.whole main_v2_0) fx))
  have hv3 : ∀ f L, (Memref.whole cc1_scratch0).view.readAt (Elt F) (Rect.unit (s := S3x1024x2048) ![0, 0, 0] S1x1024x2048.size inb_S3x1024x2048_S1x1024x2048_0_0_0).toLoadRect
      ((slot3 (Memref.whole cc1_scratch0) 0).view.writes (Elt F) f (⟨Rect.whole S1024x2048, ReadAs.same.apply ((blk (Memref.whole main_v2_0) 3).view.read (Elt F) fx)⟩ :: L))
      = slotV (xb fx 3) := fun f L => (load_slot _ _ squeezes_S1x1024x2048_S1024x2048 f _ L).trans (congrArg slotV (read_blk3 (Memref.whole main_v2_0) fx))
  have hv4 : ∀ f L, (Memref.whole cc1_scratch0).view.readAt (Elt F) (Rect.unit (s := S3x1024x2048) ![1, 0, 0] S1x1024x2048.size inb_S3x1024x2048_S1x1024x2048_1_0_0).toLoadRect
      ((slot3 (Memref.whole cc1_scratch0) 1).view.writes (Elt F) f (⟨Rect.whole S1024x2048, ReadAs.same.apply ((blk (Memref.whole main_v2_0) 4).view.read (Elt F) fx)⟩ :: L))
      = slotV (xb fx 4) := fun f L => (load_slot _ _ squeezes_S1x1024x2048_S1024x2048 f _ L).trans (congrArg slotV (read_blk4 (Memref.whole main_v2_0) fx))
  have hv5 : ∀ f L, (Memref.whole cc1_scratch0).view.readAt (Elt F) (Rect.unit (s := S3x1024x2048) ![2, 0, 0] S1x1024x2048.size inb_S3x1024x2048_S1x1024x2048_2_0_0).toLoadRect
      ((slot3 (Memref.whole cc1_scratch0) 2).view.writes (Elt F) f (⟨Rect.whole S1024x2048, ReadAs.same.apply ((blk (Memref.whole main_v2_0) 5).view.read (Elt F) fx)⟩ :: L))
      = slotV (xb fx 5) := fun f L => (load_slot _ _ squeezes_S1x1024x2048_S1024x2048 f _ L).trans (congrArg slotV (read_blk5 (Memref.whole main_v2_0) fx))
  have hr : M0.view.readAt (Elt F) (Rect.unit (s := S1x6144) ![0, 0] S1x6144.size inb_S1x6144_S1x6144_0_0).toLoadRect f0 = M0.view.read (Elt F) f0 :=
    View.readAt_full _ _ _
  have hc0 : ∀ w, (Memref.whole cc1_scratch2).view.readCov (Val := Elt F) [⟨Rect.unit (s := S6144x1) ![0, 0] S6144x1.size inb_S6144x1_S6144x1_0_0, w⟩]
      (Rect.unit (s := S6144x1) ![0, 0] S1024x1.size inb_S6144x1_S1024x1_0_0).toLoadRect = colB w 0 := fun w => load_colB (Memref.whole cc1_scratch2) w 0 _ rfl _
  have hc1 : ∀ w, (Memref.whole cc1_scratch2).view.readCov (Val := Elt F) [⟨Rect.unit (s := S6144x1) ![0, 0] S6144x1.size inb_S6144x1_S6144x1_0_0, w⟩]
      (Rect.unit (s := S6144x1) ![1024, 0] S1024x1.size inb_S6144x1_S1024x1_1024_0).toLoadRect = colB w 1 := fun w => load_colB (Memref.whole cc1_scratch2) w 1 _ rfl _
  have hc2 : ∀ w, (Memref.whole cc1_scratch2).view.readCov (Val := Elt F) [⟨Rect.unit (s := S6144x1) ![0, 0] S6144x1.size inb_S6144x1_S6144x1_0_0, w⟩]
      (Rect.unit (s := S6144x1) ![2048, 0] S1024x1.size inb_S6144x1_S1024x1_2048_0).toLoadRect = colB w 2 := fun w => load_colB (Memref.whole cc1_scratch2) w 2 _ rfl _
  have hc3 : ∀ w, (Memref.whole cc1_scratch2).view.readCov (Val := Elt F) [⟨Rect.unit (s := S6144x1) ![0, 0] S6144x1.size inb_S6144x1_S6144x1_0_0, w⟩]
      (Rect.unit (s := S6144x1) ![3072, 0] S1024x1.size inb_S6144x1_S1024x1_3072_0).toLoadRect = colB w 3 := fun w => load_colB (Memref.whole cc1_scratch2) w 3 _ rfl _
  have hc4 : ∀ w, (Memref.whole cc1_scratch2).view.readCov (Val := Elt F) [⟨Rect.unit (s := S6144x1) ![0, 0] S6144x1.size inb_S6144x1_S6144x1_0_0, w⟩]
      (Rect.unit (s := S6144x1) ![4096, 0] S1024x1.size inb_S6144x1_S1024x1_4096_0).toLoadRect = colB w 4 := fun w => load_colB (Memref.whole cc1_scratch2) w 4 _ rfl _
  have hc5 : ∀ w, (Memref.whole cc1_scratch2).view.readCov (Val := Elt F) [⟨Rect.unit (s := S6144x1) ![0, 0] S6144x1.size inb_S6144x1_S6144x1_0_0, w⟩]
      (Rect.unit (s := S6144x1) ![5120, 0] S1024x1.size inb_S6144x1_S1024x1_5120_0).toLoadRect = colB w 5 := fun w => load_colB (Memref.whole cc1_scratch2) w 5 _ rfl _
  sl_exec
  sl_step
  iapply Hk
  ihave Ho0 := (own_written c (blk (Memref.whole main_v3) 0) (read_blk0 (c := c) (Memref.whole main_v3) (outs (M0.view.read (Elt F) f0) fx)) ?_) $$ Ho0
  · exact (read_stage (Memref.whole cc1_scratch1) _ squeezes_S1x1024x2048_S1024x2048 _ _).trans (out_val 0 rfl rfl)
  ihave Ho1 := (own_written c (blk (Memref.whole main_v3) 1) (read_blk1 (c := c) (Memref.whole main_v3) (outs (M0.view.read (Elt F) f0) fx)) ?_) $$ Ho1
  · exact (read_stage (Memref.whole cc1_scratch1) _ squeezes_S1x1024x2048_S1024x2048 _ _).trans (out_val 1 rfl rfl)
  ihave Ho2 := (own_written c (blk (Memref.whole main_v3) 2) (read_blk2 (c := c) (Memref.whole main_v3) (outs (M0.view.read (Elt F) f0) fx)) ?_) $$ Ho2
  · exact (read_stage (Memref.whole cc1_scratch1) _ squeezes_S1x1024x2048_S1024x2048 _ _).trans (out_val 2 rfl rfl)
  ihave Ho3 := (own_written c (blk (Memref.whole main_v3) 3) (read_blk3 (c := c) (Memref.whole main_v3) (outs (M0.view.read (Elt F) f0) fx)) ?_) $$ Ho3
  · exact (read_stage (Memref.whole cc1_scratch1) _ squeezes_S1x1024x2048_S1024x2048 _ _).trans (out_val 3 rfl rfl)
  ihave Ho4 := (own_written c (blk (Memref.whole main_v3) 4) (read_blk4 (c := c) (Memref.whole main_v3) (outs (M0.view.read (Elt F) f0) fx)) ?_) $$ Ho4
  · exact (read_stage (Memref.whole cc1_scratch1) _ squeezes_S1x1024x2048_S1024x2048 _ _).trans (out_val 4 rfl rfl)
  ihave Ho5 := (own_written c (blk (Memref.whole main_v3) 5) (read_blk5 (c := c) (Memref.whole main_v3) (outs (M0.view.read (Elt F) f0) fx)) ?_) $$ Ho5
  · exact (read_stage (Memref.whole cc1_scratch1) _ squeezes_S1x1024x2048_S1024x2048 _ _).trans (out_val 5 rfl rfl)
  isplitl [H0]; · iexact H0
  isplitl [Hx0 Hx1 Hx2 Hx3 Hx4 Hx5]
  · isplitl [Hx0]; · iexact Hx0
    isplitl [Hx1]; · iexact Hx1
    isplitl [Hx2]; · iexact Hx2
    isplitl [Hx3]; · iexact Hx3
    isplitl [Hx4]; · iexact Hx4
    iexact Hx5
  isplitl [Ho0 Ho1 Ho2 Ho3 Ho4 Ho5]
  · isplitl [Ho0]; · iexact Ho0
    isplitl [Ho1]; · iexact Ho1
    isplitl [Ho2]; · iexact Ho2
    isplitl [Ho3]; · iexact Ho3
    isplitl [Ho4]; · iexact Ho4
    iexact Ho5
  isplitl [Hb0 Hb1 Hb2]
  · isplitl [Hb0]; · iexists _; iexact Hb0
    isplitl [Hb1]; · iexists _; iexact Hb1
    iexists _; iexact Hb2
  isplitl [Hs0 Hs1]
  · isplitl [Hs0]; · iexists _; iexact Hs0
    iexists _; iexact Hs1
  isplitl [Hi]; · iexists _; iexact Hi
  isplitl [Hc0 Hc1 Hc2 Hd0 Hd1]
  · isplitl [Hc0]; · iexact Hc0
    isplitl [Hc1]; · iexact Hc1
    isplitl [Hc2]; · iexact Hc2
    isplitl [Hd0]; · iexact Hd0
    iexact Hd1
  iexists _; iexact HO

end Cert.Proof.Norm
-- ==== Proof.Split.lean ====
module

public import proofs.«01_k».proof.Proof.Common
public import Idealize.ShloMosaic.Lib.Ring

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Bool (Elt F) ℕ UU ℕ

/-! ## A buffer and its parts -/

section Family

variable {sp : Space} {S : Shape} {e : EltTy} (c : Dev nD) (M : Memref sig .tc sp S e) (hM : M.view.set = Finset.univ)
  {n : ℕ} (R : Fin n → Rect S) (hd : ∀ b b', b ≠ b' → Disjoint (R b).set (R b').set)
  (hc : Finset.univ.biUnion (fun b => (R b).set) = Finset.univ)

include hd in
/-- Parts that do not meet in the shape do not meet in the buffer. -/
theorem parts_disjoint (b b' : Fin n) (h : b ≠ b') : Disjoint ((R b).set.map M.view.emb) ((R b').set.map M.view.emb) :=
  (Finset.disjoint_map M.view.emb).2 (hd b b' h)

include hM hc in
/-- Parts that cover the shape cover the buffer. -/
theorem parts_cover : Finset.univ.biUnion (fun b => (R b).set.map M.view.emb) = Finset.univ := by
  rw [← hM]
  ext i
  constructor
  · intro h
    obtain ⟨b, -, hb⟩ := Finset.mem_biUnion.1 h
    obtain ⟨z, -, rfl⟩ := Finset.mem_map.1 hb
    exact Finset.mem_map.2 ⟨z, Finset.mem_univ _, rfl⟩
  · intro h
    obtain ⟨z, -, rfl⟩ := Finset.mem_map.1 h
    have hz : z ∈ Finset.univ.biUnion (fun b => (R b).set) := hc ▸ Finset.mem_univ z
    obtain ⟨b, -, hb⟩ := Finset.mem_biUnion.1 hz
    exact Finset.mem_biUnion.2 ⟨b, Finset.mem_univ _, Finset.mem_map.2 ⟨z, hb, rfl⟩⟩

include hM hd hc in
/-- A buffer held whole is held part by part. -/
theorem parts_eq (f : Bf (F := F) c M) :
    (pt c M f : sProp 𝕄) = bigSep Finset.univ fun b => M.view.loc (c : Thread nD τ) ↦[(R b).set.map M.view.emb]{fullShare} f :=
  Ring.pointsTo_blocks _ (parts_disjoint M R hd) (parts_cover M hM R hc) f

include hM hd hc in
/-- Parts, each at some contents, are the buffer at some contents. -/
theorem parts_join (f₀ : Bf (F := F) c M) :
    bigSep Finset.univ (fun b => iprop(∃ f, M.view.loc (c : Thread nD τ) ↦[(R b).set.map M.view.emb]{fullShare} f)) ⊢ (iprop(∃ f, pt c M f) : sProp 𝕄) :=
  Ring.pointsTo_blocks_join_exists _ (parts_disjoint M R hd) (parts_cover M hM R hc) f₀

end Family

/-- The elements of a slice. -/
theorem set_slc {sp : Space} {S : Shape} {e : EltTy} (M : Memref sig .tc sp S e) (r : Rect S) (h) : (M.slice r h).view.set = r.set.map M.view.emb :=
  View.set_slice M.view r
/-- The elements of a slice whose unit axes are dropped. -/
theorem set_sqz {sp : Space} {S S' : Shape} {e : EltTy} (M : Memref sig .tc sp S e) (r : Rect S) (h) (hq) :
    ((M.slice r h).squeeze S' hq).view.set = r.set.map M.view.emb := (View.set_reshape (M.slice r h).view _).trans (View.set_slice M.view r)

/-! ## Six blocks of rows -/

/-- The rows of block `b`. -/
abbrev rectB (b : Fin 6) : Rect S6144x2048 :=
  Rect.unit (s := S6144x2048) ![1024 * b.val, 0] S1024x2048.size (by intro a; fin_cases b <;> fin_cases a <;> decide)
/-- The blocks do not meet. -/
theorem rectB_disjoint (b b' : Fin 6) (h : b ≠ b') : Disjoint (rectB b).set (rectB b').set :=
  Ring.lead_disjoint (s := S6144x2048) (0 : Fin 2) 1024 (fun b : Fin 6 => ![1024 * b.val, 0]) S1024x2048.size _ (fun _ => rfl) rfl b b' h
/-- The blocks cover the array. -/
theorem rectB_cover : Finset.univ.biUnion (fun b => (rectB b).set) = Finset.univ :=
  Ring.lead_cover (s := S6144x2048) (0 : Fin 2) 1024 (fun b : Fin 6 => ![1024 * b.val, 0]) S1024x2048.size _ (fun _ => rfl)
    (by intro b a h; fin_cases a; exact absurd rfl h; rfl) rfl (by intro a h; fin_cases a; exact absurd rfl h; rfl) rfl

/-- The six blocks, written out. -/
theorem own_blk {e : EltTy} (c : Dev nD) (M : Memref sig .tc .hbm S6144x2048 e) (f : Bf (F := F) c M) :
    (bigSep Finset.univ fun b => (M.view.loc (c : Thread nD τ) ↦[(rectB b).set.map M.view.emb]{fullShare} f : sProp 𝕄))
      = iprop(own c (blk M 0) f ∗ own c (blk M 1) f ∗ own c (blk M 2) f ∗ own c (blk M 3) f ∗ own c (blk M 4) f ∗ own c (blk M 5) f) := by
  rw [bigSep_univ_eq_bigSepL [0, 1, 2, 3, 4, 5] (by decide) (by decide)]
  unfold own
  rw [set_slc, set_slc, set_slc, set_slc, set_slc, set_slc]
  rfl
  all_goals first | exact fun _ => rfl | exact squeezes_S1x1024x2048_S1024x2048 | exact squeezes_S1x1x2048_S1x2048

/-- An array held whole is its six blocks held. -/
theorem blks_eq {e : EltTy} (c : Dev nD) (M : Memref sig .tc .hbm S6144x2048 e) (hM : M.view.set = Finset.univ) (f : Bf (F := F) c M) :
    (pt c M f : sProp 𝕄)
      = iprop(own c (blk M 0) f ∗ own c (blk M 1) f ∗ own c (blk M 2) f ∗ own c (blk M 3) f ∗ own c (blk M 4) f ∗ own c (blk M 5) f) :=
  (parts_eq c M hM rectB rectB_disjoint rectB_cover f).trans (own_blk c M f)

/-! ## Three slots of the input buffer -/

/-- Slot `b` of three. -/
abbrev rectS3 (b : Fin 3) : Rect S3x1024x2048 :=
  Rect.unit (s := S3x1024x2048) ![1 * b.val, 0, 0] S1x1024x2048.size (by intro a; fin_cases b <;> fin_cases a <;> decide)
/-- The slots do not meet. -/
theorem rectS3_disjoint (b b' : Fin 3) (h : b ≠ b') : Disjoint (rectS3 b).set (rectS3 b').set :=
  Ring.lead_disjoint (s := S3x1024x2048) (0 : Fin 3) 1 (fun b : Fin 3 => ![1 * b.val, 0, 0]) S1x1024x2048.size _ (fun _ => rfl) rfl b b' h
/-- The slots cover the buffer. -/
theorem rectS3_cover : Finset.univ.biUnion (fun b => (rectS3 b).set) = Finset.univ :=
  Ring.lead_cover (s := S3x1024x2048) (0 : Fin 3) 1 (fun b : Fin 3 => ![1 * b.val, 0, 0]) S1x1024x2048.size _ (fun _ => rfl)
    (by intro b a h; fin_cases a; exact absurd rfl h; all_goals rfl) rfl (by intro a h; fin_cases a; exact absurd rfl h; all_goals rfl) rfl

/-- A buffer of three slots held whole is its slots held; -/
theorem slots3_eq {e : EltTy} (c : Dev nD) (M : Memref sig .tc .vmem S3x1024x2048 e) (hM : M.view.set = Finset.univ) (f : Bf (F := F) c M) :
    (pt c M f : sProp 𝕄) = iprop(own c (slot3 M 0) f ∗ own c (slot3 M 1) f ∗ own c (slot3 M 2) f) := by
  rw [parts_eq c M hM rectS3 rectS3_disjoint rectS3_cover f, bigSep_univ_eq_bigSepL [0, 1, 2] (by decide) (by decide)]
  unfold own
  rw [set_sqz, set_sqz, set_sqz]
  rfl
  all_goals first | exact fun _ => rfl | exact squeezes_S1x1024x2048_S1024x2048 | exact squeezes_S1x1x2048_S1x2048
/-- and slots at any contents are the buffer at some. -/
theorem slots3_join {e : EltTy} (c : Dev nD) (M : Memref sig .tc .vmem S3x1024x2048 e) (hM : M.view.set = Finset.univ) (f₀ : Bf (F := F) c M) :
    iprop(ownAny c (slot3 M 0) ∗ ownAny c (slot3 M 1) ∗ ownAny c (slot3 M 2)) ⊢ (iprop(∃ f, pt c M f) : sProp 𝕄) := by
  refine BIBase.Entails.trans ?_ (parts_join c M hM rectS3 rectS3_disjoint rectS3_cover f₀)
  rw [bigSep_univ_eq_bigSepL [0, 1, 2] (by decide) (by decide)]
  unfold ownAny own
  rw [set_sqz, set_sqz, set_sqz]
  exact .rfl
  all_goals first | exact fun _ => rfl | exact squeezes_S1x1024x2048_S1024x2048 | exact squeezes_S1x1x2048_S1x2048

/-! ## Two slots of the staging buffer -/

/-- Slot `b` of two. -/
abbrev rectS2 (b : Fin 2) : Rect S2x1024x2048 :=
  Rect.unit (s := S2x1024x2048) ![1 * b.val, 0, 0] S1x1024x2048.size (by intro a; fin_cases b <;> fin_cases a <;> decide)
/-- The slots do not meet. -/
theorem rectS2_disjoint (b b' : Fin 2) (h : b ≠ b') : Disjoint (rectS2 b).set (rectS2 b').set :=
  Ring.lead_disjoint (s := S2x1024x2048) (0 : Fin 3) 1 (fun b : Fin 2 => ![1 * b.val, 0, 0]) S1x1024x2048.size _ (fun _ => rfl) rfl b b' h
/-- The slots cover the buffer. -/
theorem rectS2_cover : Finset.univ.biUnion (fun b => (rectS2 b).set) = Finset.univ :=
  Ring.lead_cover (s := S2x1024x2048) (0 : Fin 3) 1 (fun b : Fin 2 => ![1 * b.val, 0, 0]) S1x1024x2048.size _ (fun _ => rfl)
    (by intro b a h; fin_cases a; exact absurd rfl h; all_goals rfl) rfl (by intro a h; fin_cases a; exact absurd rfl h; all_goals rfl) rfl

/-- A buffer of two slots held whole is its slots held; -/
theorem slots2_eq {e : EltTy} (c : Dev nD) (M : Memref sig .tc .vmem S2x1024x2048 e) (hM : M.view.set = Finset.univ) (f : Bf (F := F) c M) :
    (pt c M f : sProp 𝕄) = iprop(own c (slot2 M 0) f ∗ own c (slot2 M 1) f) := by
  rw [parts_eq c M hM rectS2 rectS2_disjoint rectS2_cover f, bigSep_univ_eq_bigSepL [0, 1] (by decide) (by decide)]
  unfold own
  rw [set_sqz, set_sqz]
  rfl
  all_goals first | exact fun _ => rfl | exact squeezes_S1x1024x2048_S1024x2048 | exact squeezes_S1x1x2048_S1x2048
/-- and slots at any contents are the buffer at some. -/
theorem slots2_join {e : EltTy} (c : Dev nD) (M : Memref sig .tc .vmem S2x1024x2048 e) (hM : M.view.set = Finset.univ) (f₀ : Bf (F := F) c M) :
    iprop(ownAny c (slot2 M 0) ∗ ownAny c (slot2 M 1)) ⊢ (iprop(∃ f, pt c M f) : sProp 𝕄) := by
  refine BIBase.Entails.trans ?_ (parts_join c M hM rectS2 rectS2_disjoint rectS2_cover f₀)
  rw [bigSep_univ_eq_bigSepL [0, 1] (by decide) (by decide)]
  unfold ownAny own
  rw [set_sqz, set_sqz]
  exact .rfl
  all_goals first | exact fun _ => rfl | exact squeezes_S1x1024x2048_S1024x2048 | exact squeezes_S1x1x2048_S1x2048

/-! ## Three chunks of row sums -/

/-- Chunk `b` of the row. -/
abbrev rectP (b : Fin 3) : Rect S1x6144 :=
  Rect.unit (s := S1x6144) ![0, 2048 * b.val] S1x2048.size (by intro a; fin_cases b <;> fin_cases a <;> decide)
/-- The chunks do not meet. -/
theorem rectP_disjoint (b b' : Fin 3) (h : b ≠ b') : Disjoint (rectP b).set (rectP b').set :=
  Ring.lead_disjoint (s := S1x6144) (1 : Fin 2) 2048 (fun b : Fin 3 => ![0, 2048 * b.val]) S1x2048.size _ (fun _ => rfl) rfl b b' h
/-- The chunks cover the row. -/
theorem rectP_cover : Finset.univ.biUnion (fun b => (rectP b).set) = Finset.univ :=
  Ring.lead_cover (s := S1x6144) (1 : Fin 2) 2048 (fun b : Fin 3 => ![0, 2048 * b.val]) S1x2048.size _ (fun _ => rfl)
    (by intro b a h; fin_cases a; rfl; exact absurd rfl h) rfl (by intro a h; fin_cases a; rfl; exact absurd rfl h) rfl

/-- The row of sums held whole is its chunks held; -/
theorem sums_eq (c : Dev nD) (f : Bf (F := F) c (Memref.whole cc0_scratch3)) :
    (pt c (Memref.whole cc0_scratch3) f : sProp 𝕄) = iprop(own c (prow 0) f ∗ own c (prow 1) f ∗ own c (prow 2) f) := by
  rw [parts_eq c (Memref.whole cc0_scratch3) (View.set_whole _) rectP rectP_disjoint rectP_cover f, bigSep_univ_eq_bigSepL [0, 1, 2] (by decide) (by decide)]
  unfold own
  rw [set_slc, set_slc, set_slc]
  rfl
  all_goals first | exact fun _ => rfl | exact squeezes_S1x1024x2048_S1024x2048 | exact squeezes_S1x1x2048_S1x2048
/-- and chunks at any contents are the row at some. -/
theorem sums_join (c : Dev nD) (f₀ : Bf (F := F) c (Memref.whole cc0_scratch3)) :
    iprop(ownAny c (prow 0) ∗ ownAny c (prow 1) ∗ ownAny c (prow 2)) ⊢ (iprop(∃ f, pt c (Memref.whole cc0_scratch3) f) : sProp 𝕄) := by
  refine BIBase.Entails.trans ?_ (parts_join c (Memref.whole cc0_scratch3) (View.set_whole _) rectP rectP_disjoint rectP_cover f₀)
  rw [bigSep_univ_eq_bigSepL [0, 1, 2] (by decide) (by decide)]
  unfold ownAny own
  rw [set_slc, set_slc, set_slc]
  exact .rfl
  all_goals first | exact fun _ => rfl | exact squeezes_S1x1024x2048_S1024x2048 | exact squeezes_S1x1x2048_S1x2048

/-! ## Nine chunks of the receive rows -/

/-- Chunk `b` of the receive buffer: three of each row. -/
abbrev rectC (b : Fin 9) : Rect S3x1x6144 :=
  Rect.unit (s := S3x1x6144) ![b.val / 3, 0, 2048 * (b.val % 3)] S1x1x2048.size (by intro a; fin_cases b <;> fin_cases a <;> decide)
/-- The chunks do not meet. -/
theorem rectC_disjoint (b b' : Fin 9) (h : b ≠ b') : Disjoint (rectC b).set (rectC b').set := by
  rw [Finset.disjoint_left]
  intro i hi hi'
  have h1 : b.val / 3 ≤ (i 0).val ∧ (i 0).val < b.val / 3 + 1 := (Rect.mem_set_unit.mp hi) 0
  have h2 : b'.val / 3 ≤ (i 0).val ∧ (i 0).val < b'.val / 3 + 1 := (Rect.mem_set_unit.mp hi') 0
  have h3 : 2048 * (b.val % 3) ≤ (i 2).val ∧ (i 2).val < 2048 * (b.val % 3) + 2048 := (Rect.mem_set_unit.mp hi) 2
  have h4 : 2048 * (b'.val % 3) ≤ (i 2).val ∧ (i 2).val < 2048 * (b'.val % 3) + 2048 := (Rect.mem_set_unit.mp hi') 2
  exact h (Fin.ext (by omega))
/-- The chunks cover the receive buffer. -/
theorem rectC_cover : Finset.univ.biUnion (fun b => (rectC b).set) = Finset.univ := by
  ext i
  have h0 : (i 0).val < 3 := (i 0).isLt
  have h1 : (i 1).val < 1 := (i 1).isLt
  have h2 : (i 2).val < 6144 := (i 2).isLt
  simp only [Finset.mem_biUnion, Finset.mem_univ, true_and, iff_true]
  refine ⟨⟨3 * (i 0).val + (i 2).val / 2048, by omega⟩, Rect.mem_set_unit.mpr fun a => ?_⟩
  match a with
  | ⟨0, _⟩ =>
    show (3 * (i 0).val + (i 2).val / 2048) / 3 ≤ (i 0).val ∧ (i 0).val < (3 * (i 0).val + (i 2).val / 2048) / 3 + 1
    omega
  | ⟨1, _⟩ =>
    show 0 ≤ (i 1).val ∧ (i 1).val < 0 + 1
    omega
  | ⟨2, _⟩ =>
    show 2048 * ((3 * (i 0).val + (i 2).val / 2048) % 3) ≤ (i 2).val ∧ (i 2).val < 2048 * ((3 * (i 0).val + (i 2).val / 2048) % 3) + 2048
    omega

/-- The receive buffer held whole is its nine chunks held; -/
theorem recv_eq (c : Dev nD) (f : Bf (F := F) c (Memref.whole cc0_scratch4)) :
    (pt c (Memref.whole cc0_scratch4) f : sProp 𝕄) = iprop(own c (crow 0 0) f ∗ own c (crow 0 1) f ∗ own c (crow 0 2) f
      ∗ own c (crow 1 0) f ∗ own c (crow 1 1) f ∗ own c (crow 1 2) f ∗ own c (crow 2 0) f ∗ own c (crow 2 1) f ∗ own c (crow 2 2) f) := by
  rw [parts_eq c (Memref.whole cc0_scratch4) (View.set_whole _) rectC rectC_disjoint rectC_cover f,
    bigSep_univ_eq_bigSepL [0, 1, 2, 3, 4, 5, 6, 7, 8] (by decide) (by decide)]
  unfold own
  rw [set_sqz, set_sqz, set_sqz, set_sqz, set_sqz, set_sqz, set_sqz, set_sqz, set_sqz]
  rfl
  all_goals first | exact fun _ => rfl | exact squeezes_S1x1024x2048_S1024x2048 | exact squeezes_S1x1x2048_S1x2048
/-- and chunks at any contents are the buffer at some. -/
theorem recv_join (c : Dev nD) (f₀ : Bf (F := F) c (Memref.whole cc0_scratch4)) :
    iprop(ownAny c (crow 0 0) ∗ ownAny c (crow 0 1) ∗ ownAny c (crow 0 2)
      ∗ ownAny c (crow 1 0) ∗ ownAny c (crow 1 1) ∗ ownAny c (crow 1 2) ∗ ownAny c (crow 2 0) ∗ ownAny c (crow 2 1) ∗ ownAny c (crow 2 2))
      ⊢ (iprop(∃ f, pt c (Memref.whole cc0_scratch4) f) : sProp 𝕄) := by
  refine BIBase.Entails.trans ?_ (parts_join c (Memref.whole cc0_scratch4) (View.set_whole _) rectC rectC_disjoint rectC_cover f₀)
  rw [bigSep_univ_eq_bigSepL [0, 1, 2, 3, 4, 5, 6, 7, 8] (by decide) (by decide)]
  unfold ownAny own
  rw [set_sqz, set_sqz, set_sqz, set_sqz, set_sqz, set_sqz, set_sqz, set_sqz, set_sqz]
  exact .rfl
  all_goals first | exact fun _ => rfl | exact squeezes_S1x1024x2048_S1024x2048 | exact squeezes_S1x1x2048_S1x2048

end Cert.Proof.Norm
-- ==== Proof.Regions.lean ====
module

public import proofs.«01_k».proof.Proof.RegionA
public import proofs.«01_k».proof.Proof.RegionB
public import proofs.«01_k».proof.Proof.Split
public import proofs.«01_k».proof.Proof.Gen.KernelIdeal.Launch
public import proofs.«01_k».proof.Proof.Gen.KernelIdeal.Regions
public import Idealize.ShloMosaic.Lib.Pipeline.RegionTalk
public import Idealize.ShloMosaic.Lib.Rounds.Family
public import Idealize.ShloMosaic.Lib.Pipeline.ValueKit

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Bool (Elt F) ℕ UU ℕ

variable (m : (ℓ : Loc nD τ sig) → Buf (Elt F) ℓ)

/-! ## What each region leaves -/

/-- Device `c`'s columns of the argument, and its scales in one row, as the first kernel finds them. -/
def xOf (c : Dev nD) : S6144x2048.Idx → Elt F .f32 := V1 m c main_arg0
/-- Its weights in one row. -/
def gOf (c : Dev nD) : S1x2048.Idx → Elt F .f32 := V1 m c main_v1
/-- Every device's row sums over its own columns. -/
def sumsOf : Sums F := fun d => chunkSums (xOf m d)
/-- The inverse roots that device `c` gets from the four devices' sums. -/
def invOf (c : Dev nD) : S1x6144.Idx → Elt F .f32 := invs (sumsOf m c) (sumsOf m (nx c 2)) (sumsOf m (nx c 1)) (sumsOf m (nx c 0))
/-- Its scaled rows. -/
def scOf (c : Dev nD) : S6144x2048.Idx → Elt F .bf16 := scaled (gOf m c) (xOf m c)
/-- Its columns of the result. -/
def outOf (c : Dev nD) : S6144x2048.Idx → Elt F .bf16 := outs (invOf m c) (scOf m c)

/-- The same, as contents of the buffers they are left in. -/
def left : Outs (F := F) := fun _ r c =>
  (Function.update (Function.update (Function.update (V1 m c) main_v2_1 (invOf m c)) main_v2_0 (scOf m c)) main_v3 (outOf m c) : Valuation τ sig (Elt F)) r

/-- What is left in the row of inverse roots. -/
theorem left_v2_1 (J : ℕ) (c : Dev nD) : left m J main_v2_1 c = invOf m c := by
  unfold left
  rw [Function.update_of_ne (StableHlo.devRef_ne_of_ne (by decide)), Function.update_of_ne (StableHlo.devRef_ne_of_ne (by decide)), Function.update_self]
/-- What is left in the array of scaled rows. -/
theorem left_v2_0 (J : ℕ) (c : Dev nD) : left m J main_v2_0 c = scOf m c := by
  unfold left
  rw [Function.update_of_ne (StableHlo.devRef_ne_of_ne (by decide)), Function.update_self]
/-- What is left in the result. -/
theorem left_v3 (J : ℕ) (c : Dev nD) : left m J main_v3 c = outOf m c := by
  unfold left; rw [Function.update_self]

/-- All buffers after the first region. -/
abbrev U2 (c : Dev nD) : Valuation τ sig (Elt F) := V2 m (left m) c
/-- All buffers after the second region. -/
abbrev U3 (c : Dev nD) : Valuation τ sig (Elt F) := V3 m (left m) c

/-- After the first region: the inverse roots. -/
theorem U2_v2_1 (c : Dev nD) : U2 m c main_v2_1 = invOf m c := by
  unfold U2 V2
  rw [Function.update_of_ne (StableHlo.devRef_ne_of_ne (by decide)), Function.update_self, left_v2_1]
/-- After the first region: the scaled rows. -/
theorem U2_v2_0 (c : Dev nD) : U2 m c main_v2_0 = scOf m c := by
  unfold U2 V2
  rw [Function.update_self, left_v2_0]
/-- The second region keeps the inverse roots. -/
theorem U3_v2_1 (c : Dev nD) : U3 m c main_v2_1 = invOf m c := (V3_of m (left m) c main_v2_1 (by decide)).trans (U2_v2_1 m c)
/-- The second region keeps the scaled rows. -/
theorem U3_v2_0 (c : Dev nD) : U3 m c main_v2_0 = scOf m c := by
  unfold U3 V3
  rw [Function.update_of_ne (StableHlo.devRef_ne_of_ne (by decide)), Function.update_self, left_v2_0]
/-- After the second region: the result. -/
theorem U3_v3 (c : Dev nD) : U3 m c main_v3 = outOf m c := by
  unfold U3 V3
  rw [Function.update_self, left_v3]
/-- The first region keeps the argument. -/
theorem U2_arg0 (c : Dev nD) : U2 m c main_arg0 = xOf m c := V2_of m (left m) c main_arg0 (by decide)

/-! ## The protocol's state from launch to the first kernel -/

/-- A core's send cells (`false`) and receive cells (`true`). -/
abbrev Sc : Type := Bool × Fin 3 × Fin 3
/-- The semaphore of a send or receive cell. -/
abbrev scS : Sc → SemLoc sig
  | (false, o, ch) => sndS o ch
  | (true, o, ch) => rcvS o ch
/-- Core `c`'s send or receive cell. -/
abbrev scC (c : Dev nD) (k : Sc) : GSem nD τ sig := ((c : Thread nD τ), scS k)
/-- No two of them are one. -/
theorem scS_inj : Function.Injective scS := by decide
/-- None of them is the barrier. -/
theorem scS_ne_bar : ∀ k : Sc, scS k ≠ barS := by decide

/-- Conjoined one by one. -/
theorem bigSep_Sc {M : Type} [URA M] (Φ : Sc → sProp M) : bigSep Finset.univ Φ
    = iprop(Φ (false, 0, 0) ∗ Φ (false, 0, 1) ∗ Φ (false, 0, 2) ∗ Φ (false, 1, 0) ∗ Φ (false, 1, 1) ∗ Φ (false, 1, 2) ∗ Φ (false, 2, 0) ∗ Φ (false, 2, 1) ∗ Φ (false, 2, 2)
      ∗ Φ (true, 0, 0) ∗ Φ (true, 0, 1) ∗ Φ (true, 0, 2) ∗ Φ (true, 1, 0) ∗ Φ (true, 1, 1) ∗ Φ (true, 1, 2) ∗ Φ (true, 2, 0) ∗ Φ (true, 2, 1) ∗ Φ (true, 2, 2)) :=
  bigSep_univ_eq_bigSepL [(false, 0, 0), (false, 0, 1), (false, 0, 2), (false, 1, 0), (false, 1, 1), (false, 1, 2), (false, 2, 0), (false, 2, 1), (false, 2, 2),
    (true, 0, 0), (true, 0, 1), (true, 0, 2), (true, 1, 0), (true, 1, 1), (true, 1, 2), (true, 2, 0), (true, 2, 1), (true, 2, 2)] (by decide) (by decide) Φ

/-- The barrier cells, one for each device. -/
def barEmb : Dev nD ↪ GSem nD τ sig := ⟨fun d => barC d, fun _ _ h => congrArg (fun g : GSem nD τ sig => g.1.1) h⟩
/-- The send and receive cells of all devices. -/
def scEmb : Dev nD × Sc ↪ GSem nD τ sig :=
  ⟨fun p => scC p.1 p.2, fun _ _ h => Prod.ext (congrArg (fun g : GSem nD τ sig => g.1.1) h) (scS_inj (congrArg Prod.snd h))⟩
/-- The barrier cells, open from the launch on; the send and receive cells, dormant until the first kernel runs. -/
abbrev barCells : Finset (GSem nD τ sig) := Finset.univ.map barEmb
/-- All send and receive cells. -/
abbrev scCells : Finset (GSem nD τ sig) := Finset.univ.map scEmb

/-- A barrier cell is a cell of the protocol. -/
theorem bar_mem (d : Dev nD) : barC d ∈ (barCells ∪ scCells : Finset (GSem nD τ sig)) :=
  Finset.mem_union_left _ (Finset.mem_map_of_mem barEmb (Finset.mem_univ d))
/-- A send or receive cell is one. -/
theorem sc_mem (d : Dev nD) (k : Sc) : scC d k ∈ (barCells ∪ scCells : Finset (GSem nD τ sig)) :=
  Finset.mem_union_right _ (Finset.mem_map_of_mem scEmb (Finset.mem_univ (d, k)))

/-- Every cell's invariant under one map of names, and that every barrier is in its first round. -/
def records (κ : GSem nD τ sig → ℕ) : sProp 𝕄 :=
  iprop((bigSep (barCells ∪ scCells) fun g => inv (sumsOf m) κ g) ∗ bigSep barCells fun g => reached ER g 0)
/-- The records may be used again and again. -/
instance records_persistent (κ : GSem nD τ sig → ℕ) : BI.Persistent (records m κ) := by unfold records; infer_instance

/-- A cell's invariant, out of the records. -/
theorem inv_at (κ : GSem nD τ sig → ℕ) {g : GSem nD τ sig} (hg : g ∈ (barCells ∪ scCells : Finset (GSem nD τ sig))) :
    (records m κ : sProp 𝕄) ⊢ inv (sumsOf m) κ g := by
  unfold records
  refine sep_elim_left.trans ?_
  exact bigSep_elim (Φ := fun g => inv (sumsOf m) κ g) hg
/-- A barrier's first round, out of the records. -/
theorem reached_at (κ : GSem nD τ sig → ℕ) (d : Dev nD) : (records m κ : sProp 𝕄) ⊢ reached ER (barC d) 0 := by
  unfold records
  refine sep_elim_right.trans ?_
  exact bigSep_elim (Φ := fun g => (reached ER g 0 : sProp 𝕄)) (Finset.mem_map_of_mem barEmb (Finset.mem_univ d))

/-- Each of core `c`'s send and receive cells is in its first round. -/
def opened (c : Dev nD) : sProp 𝕄 := bigSep Finset.univ fun k : Sc => reached ER (scC c k) 0
/-- That the cells are opened may be used again and again. -/
instance opened_persistent (c : Dev nD) : BI.Persistent (opened (F := F) c) := by unfold opened; infer_instance
/-- One cell's first round. -/
theorem opened_at (c : Dev nD) (k : Sc) : (opened c : sProp 𝕄) ⊢ reached ER (scC c k) 0 := by
  unfold opened; exact bigSep_elim (Φ := fun k : Sc => (reached ER (scC c k) 0 : sProp 𝕄)) (Finset.mem_univ k)

/-- What core `c` uses at one offset, out of the records. -/
theorem invsAt_intro (κ : GSem nD τ sig → ℕ) (c : Dev nD) (o : Fin 3) :
    iprop(records m κ ∗ opened c) ⊢ (invsAt (sumsOf m) κ c o : sProp 𝕄) := by
  iintro ⟨#HR, #HO⟩
  isplitr; · iapply (inv_at m κ (bar_mem (nx c o))) $$ HR
  isplitr
  · isplitr; · iapply (inv_at m κ (sc_mem (nx c o) (true, o, 0))) $$ HR
    isplitr; · iapply (inv_at m κ (sc_mem (nx c o) (true, o, 1))) $$ HR
    iapply (inv_at m κ (sc_mem (nx c o) (true, o, 2))) $$ HR
  isplitr
  · isplitr; · iapply (inv_at m κ (sc_mem c (false, o, 0))) $$ HR
    isplitr; · iapply (inv_at m κ (sc_mem c (false, o, 1))) $$ HR
    iapply (inv_at m κ (sc_mem c (false, o, 2))) $$ HR
  isplitr
  · isplitr; · iapply (inv_at m κ (sc_mem c (true, o, 0))) $$ HR
    isplitr; · iapply (inv_at m κ (sc_mem c (true, o, 1))) $$ HR
    iapply (inv_at m κ (sc_mem c (true, o, 2))) $$ HR
  isplitr; · iapply (reached_at m κ (nx c o)) $$ HR
  isplitr
  · isplitr; · iapply (opened_at c (false, o, 0)) $$ HO
    isplitr; · iapply (opened_at c (false, o, 1)) $$ HO
    iapply (opened_at c (false, o, 2)) $$ HO
  isplitr; · iapply (opened_at c (true, o, 0)) $$ HO
  isplitr; · iapply (opened_at c (true, o, 1)) $$ HO
  iapply (opened_at c (true, o, 2)) $$ HO

/-- Core `c`'s credits for what arrives at one offset. -/
abbrev credAt (c : Dev nD) (o : Fin 3) : sProp 𝕄 :=
  iprop(cred (tallyAt (rcvC c o 0) true 256) ∗ cred (tallyAt (rcvC c o 1) true 256) ∗ cred (tallyAt (rcvC c o 2) true 256))
/-- All its credits: three units at its barrier, the nine chunks. -/
def creds (c : Dev nD) : sProp 𝕄 := iprop(cred (tallyAt (barC c) true 3) ∗ credAt c 0 ∗ credAt c 1 ∗ credAt c 2)
/-- What core `c` carries of the protocol from launch: the position at its barrier, the rights to open its dormant cells, the tokens of
    the duties it pays. -/
def linear (c : Dev nD) : sProp 𝕄 :=
  iprop(atPos ER (barC c) 0 ∅ 0 ∗ (bigSep Finset.univ fun k : Sc => openTok ER (scC c k)) ∗ (toksAt c 0 ∗ toksAt c 1 ∗ toksAt c 2))
/-- With the records and its credits: what the first kernel's region takes. -/
def Tk (c : Dev nD) : sProp 𝕄 := iprop((∃ κ, records m κ ∗ linear c) ∗ creds c)
/-- The positions at the opened cells. -/
def posns (c : Dev nD) : sProp 𝕄 := bigSep Finset.univ fun k : Sc => atPos ER (scC c k) 0 ∅ 0
/-- What enters the first kernel's invariant, its send and receive cells opened. -/
def Xk (c : Dev nD) : sProp 𝕄 :=
  iprop((∃ κ, records m κ ∗ opened c ∗ atPos ER (barC c) 0 ∅ 0 ∗ posns c ∗ (toksAt c 0 ∗ toksAt c 1 ∗ toksAt c 2)) ∗ creds c ∗ semsA0 c ∗ levAts L lv)
/-- What it leaves for the end: its barrier's counter at zero. -/
def Yk (c : Dev nD) : sProp 𝕄 := semVal (barC c) 0

/-! ## The kernels' own counters -/

/-- The first kernel's own semaphores. -/
def osem0 (k : Fin 23) : SemLoc sig := .dma ⟨2 + k.val, by show _ < 31; omega⟩
/-- The second kernel's own semaphores. -/
def osem1 (k : Fin 5) : SemLoc sig := .dma ⟨26 + k.val, by show _ < 31; omega⟩

/-- The first kernel's counters at zero: five of local copies, and the send and receive cells'. -/
theorem ownSems0_eq (c : Dev nD) : (Pipeline.ownSems0 osem0 c : sProp 𝕄)
    = iprop(semVal ((c : Thread nD τ), .dma 2) 0 ∗ semVal ((c : Thread nD τ), .dma 3) 0 ∗ semVal ((c : Thread nD τ), .dma 4) 0
      ∗ semVal ((c : Thread nD τ), .dma 5) 0 ∗ semVal ((c : Thread nD τ), .dma 6) 0 ∗ bigSep Finset.univ fun k : Sc => semVal (scC c k) 0) := by
  rw [bigSep_Sc]
  exact bigSep_univ_eq_bigSepL [0, 1, 2, 3, 4, 5, 6, 7, 8, 9, 10, 11, 12, 13, 14, 15, 16, 17, 18, 19, 20, 21, 22] (by decide) (by decide)
    (fun k : Fin 23 => (semVal ((c : Thread nD τ), osem0 k) 0 : sProp 𝕄))
/-- The second kernel's counters at zero. -/
theorem ownSems1_eq (c : Dev nD) : (Pipeline.ownSems0 osem1 c : sProp 𝕄) = semsB0 c :=
  bigSep_univ_eq_bigSepL [0, 1, 2, 3, 4] (by decide) (by decide) (fun k : Fin 5 => (semVal ((c : Thread nD τ), osem1 k) 0 : sProp 𝕄))

/-- At the region's entry the dormant cells are opened with their counters. -/
theorem open0 (c : Dev nD) : iprop(Tk m c ∗ Pipeline.ownSems0 osem0 c ∗ levAts L lv) ⊢ (|={Set.univ}=> Xk m c : sProp 𝕄) := by
  rw [ownSems0_eq]
  unfold Tk Xk linear
  iintro ⟨⟨⟨%κ, #HR, Hb, Ho, Ht⟩, Hc⟩, ⟨H2, H3, H4, H5, H6, Hs⟩, #Hlev⟩
  imod (Rounds.cells_open ER (Rd (sumsOf m)) Finset.univ (scC c) (fun k => κ (scC c k)) (fun _ _ => Set.mem_univ _)) $$ [Ho Hs] with Hopen
  · isplitl [Ho]
    · iapply (bigSep_with_persistent (R := records m κ) (Φ := fun k : Sc => (openTok ER (scC c k) : sProp 𝕄)) fun k _ => ?_)
      rotate_left
      · isplitr; · iexact HR
        iexact Ho
      iintro ⟨#HR, Ho⟩
      isplitr; · iapply (inv_at m κ (sc_mem c k)) $$ HR
      iexact Ho
    iexact Hs
  ihave Hopen := (_root_.Idealize.SL.BI.BIBase.Entails.of_eq (bigSep_sep' (Finset.univ : Finset Sc) (fun k => (atPos ER (scC c k) 0 ∅ 0 : sProp 𝕄)) (fun k => reached ER (scC c k) 0))) $$ Hopen
  icases Hopen with ⟨Hp, #Hr⟩
  imodintro
  isplitl [Hb Hp Ht]
  · iexists κ
    isplitr; · iexact HR
    isplitr; · unfold opened; iexact Hr
    isplitl [Hb]; · iexact Hb
    isplitl [Hp]; · unfold posns; iexact Hp
    iexact Ht
  isplitl [Hc]; · iexact Hc
  isplitl [H2 H3 H4 H5 H6]
  · isplitl [H2]; · iexact H2
    isplitl [H3]; · iexact H3
    isplitl [H4]; · iexact H4
    isplitl [H5]; · iexact H5
    iexact H6
  iexact Hlev

/-- Core `c`'s positions after the run, cell by cell. -/
def ends (c : Dev nD) : sProp 𝕄 := bigSep Finset.univ fun k : Sc => atPos ER (scC c k) 1 ∅ 0

/-- The positions after the three offsets' waits are all positions. -/
theorem ends_intro (c : Dev nD) : iprop(doneAt c 0 ∗ doneAt c 1 ∗ doneAt c 2) ⊢ (ends c : sProp 𝕄) := by
  unfold ends
  rw [bigSep_Sc]
  iintro ⟨⟨⟨S00, S01, S02⟩, ⟨R00, R01, R02⟩⟩, ⟨⟨S10, S11, S12⟩, ⟨R10, R11, R12⟩⟩, ⟨⟨S20, S21, S22⟩, ⟨R20, R21, R22⟩⟩⟩
  isplitl [S00]; · iexact S00
  isplitl [S01]; · iexact S01
  isplitl [S02]; · iexact S02
  isplitl [S10]; · iexact S10
  isplitl [S11]; · iexact S11
  isplitl [S12]; · iexact S12
  isplitl [S20]; · iexact S20
  isplitl [S21]; · iexact S21
  isplitl [S22]; · iexact S22
  isplitl [R00]; · iexact R00
  isplitl [R01]; · iexact R01
  isplitl [R02]; · iexact R02
  isplitl [R10]; · iexact R10
  isplitl [R11]; · iexact R11
  isplitl [R12]; · iexact R12
  isplitl [R20]; · iexact R20
  isplitl [R21]; · iexact R21
  iexact R22

/-- At the kernel's end every cell is closed and gives its counter back at zero. -/
theorem close0 (κ : GSem nD τ sig → ℕ) (c : Dev nD) :
    iprop(records m κ ∗ atPos ER (barC c) 1 ∅ 0 ∗ ends c) ⊢ (|={Set.univ}=> iprop(semVal (barC c) 0 ∗ bigSep Finset.univ fun k : Sc => semVal (scC c k) 0) : sProp 𝕄) := by
  unfold ends
  iintro ⟨#HR, Hb, He⟩
  imod (Rounds.cell_close ER (Rd (sumsOf m)) (Set.mem_univ (κ (barC c))) id (duties_later (sumsOf m) (barC c))) $$ [Hb] with Hb
  · isplitr; · iapply (inv_at m κ (bar_mem c)) $$ HR
    iexact Hb
  imod (Rounds.cells_close ER (Rd (sumsOf m)) Finset.univ (scC c) (fun k => κ (scC c k)) (fun _ _ => Set.mem_univ _) (fun _ _ => id) (fun _ => 1)
    (fun k _ => duties_later (sumsOf m) (scC c k))) $$ [He] with He
  · iapply (bigSep_with_persistent (R := records m κ) (Φ := fun k : Sc => (atPos ER (scC c k) 1 ∅ 0 : sProp 𝕄)) fun k _ => ?_)
    rotate_left
    · isplitr; · iexact HR
      iexact He
    iintro ⟨#HR, Ho⟩
    isplitr; · iapply (inv_at m κ (sc_mem c k)) $$ HR
    iexact Ho
  imodintro
  isplitl [Hb]; · iexact Hb
  iexact He

end Cert.Proof.Norm
-- ==== Proof.Bodies.lean ====
module

public import proofs.«01_k».proof.Proof.Regions

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Bool (Elt F) ℕ UU ℕ

variable (m : (ℓ : Loc nD τ sig) → Buf (Elt F) ℓ)

/-! ## The regions' buffers as the bodies name them -/

/-- A whole buffer at contents not named. -/
abbrev some_ (c : Dev nD) (b : Ref sig .tc) : sProp 𝕄 := iprop(∃ f : Buf (Elt F) ((c : Thread nD τ).loc b), ((c : Thread nD τ).loc b) ↦{fullShare} f)

/-- The buffers the two bodies address themselves. -/
abbrev hs0 : Finset (DevRef τ sig) := {Proc.devRef .tc main_arg0, Proc.devRef .tc main_v2_0}
/-- The same of the second body. -/
abbrev hs1 : Finset (DevRef τ sig) := {Proc.devRef .tc main_v2_0, Proc.devRef .tc main_v3}

/-- The buffers of the first body, held, written out. -/
theorem held0_eq (c : Dev nD) (W : Valuation τ sig (Elt F)) : (StableHlo.held (c : Thread nD τ) hs0 W : sProp 𝕄)
    = iprop(pt c (Memref.whole main_arg0) (W main_arg0) ∗ pt c (Memref.whole main_v2_0) (W main_v2_0)) := by
  unfold StableHlo.held
  exact bigSep_eq_bigSepL_of_eq [Proc.devRef .tc main_arg0, Proc.devRef .tc main_v2_0] (by decide) (by decide) _
/-- The buffers of the second body, held, written out. -/
theorem held1_eq (c : Dev nD) (W : Valuation τ sig (Elt F)) : (StableHlo.held (c : Thread nD τ) hs1 W : sProp 𝕄)
    = iprop(pt c (Memref.whole main_v2_0) (W main_v2_0) ∗ pt c (Memref.whole main_v3) (W main_v3)) := by
  unfold StableHlo.held
  exact bigSep_eq_bigSepL_of_eq [Proc.devRef .tc main_v2_0, Proc.devRef .tc main_v3] (by decide) (by decide) _

/-! ## The regions' data -/

/-- The first kernel's invariant: at entry the opened protocol, at the end everything given back. -/
def Φ0 (c : Dev nD) (t : ℕ) : sProp 𝕄 :=
  if t = 0 then iprop(Pipeline.scopedRest spec0 c ∗ (∃ r, prngReg c r) ∗ StableHlo.held (c : Thread nD τ) hs0 (V1 m c) ∗ Xk m c)
  else iprop(Pipeline.scopedRest spec0 c ∗ (∃ r, prngReg c r) ∗ StableHlo.held (c : Thread nD τ) hs0 (U2 m c) ∗ Pipeline.ownSems0 osem0 c ∗ Yk c)

/-- What core `c` owes at launch: the chunks it sends to the others, and a unit at each of their barriers. -/
def O₀ (c : Dev nD) : CellTallies nD τ sig Bool :=
  oR c 2 + oR c 1 + oR c 0 + tallyAt (barC (nx c 2)) true 1 + tallyAt (barC (nx c 1)) true 1 + tallyAt (barC (nx c 0)) true 1

/-- The first region's data: its windows' arrays, what the body leaves in them, its invariant, what is owed before and after. -/
def dat0 (c : Dev nD) : Dat τ (Elt F) Bool ℕ UU ℕ cfg0 c where
  A w := match w with
    | ⟨0, _⟩ => V1 m c main_v1
    | ⟨1, _⟩ => V1 m c main_v2_1
  after w _ := match w with
    | ⟨0, _⟩ => gOf m c
    | ⟨1, _⟩ => invOf m c
  Φ t := Φ0 m c t.val
  q _ := fullShare
  owed t := if t.val = 0 then O₀ c else 0

/-- The second kernel's invariant. -/
def Φ1 (c : Dev nD) (t : ℕ) : sProp 𝕄 :=
  if t = 0 then iprop(Pipeline.scopedRest spec1 c ∗ (∃ r, prngReg c r) ∗ StableHlo.held (c : Thread nD τ) hs1 (U2 m c) ∗ (Pipeline.ownSems0 osem1 c ∗ Yk c))
  else iprop(Pipeline.scopedRest spec1 c ∗ (∃ r, prngReg c r) ∗ StableHlo.held (c : Thread nD τ) hs1 (U3 m c) ∗ Pipeline.ownSems0 osem1 c ∗ Yk c)

/-- The second region's data. -/
def dat1 (c : Dev nD) : Dat τ (Elt F) Bool ℕ UU ℕ cfg1 c where
  A w := match w with
    | ⟨0, _⟩ => U2 m c main_v2_1
  after w _ := match w with
    | ⟨0, _⟩ => invOf m c
  Φ t := Φ1 m c t.val
  q _ := fullShare
  owed _ := 0

/-- What is owed, put in the form that a region's data has. -/
theorem owes_in {cfg : Pipeline.Cfg sig Λ₀} {c : Dev nD} (dat : Dat τ (Elt F) Bool ℕ UU ℕ cfg c) (t : Fin (cfg.N + 1))
    (O : CellTallies nD τ sig Bool) (h0 : dat.owed t = O) (hr : dat.recorded t = Set.univ) (W : Waits sig Bool) :
    (owes (c : Thread nD τ) O W : sProp 𝕄) ⊢ (dat.owesAt false t : sProp 𝕄) := by
  unfold Dat.owesAt Pipeline.owesWithin Dat.bound; rw [h0, hr]
  iintro HO; iexists W; isplitr; · ipureintro; exact fun _ _ => Or.inl trivial
  iexact HO
/-- What is owed, taken out of that form. -/
theorem owes_out {cfg : Pipeline.Cfg sig Λ₀} {c : Dev nD} (dat : Dat τ (Elt F) Bool ℕ UU ℕ cfg c) (t : Fin (cfg.N + 1))
    (O : CellTallies nD τ sig Bool) (h0 : dat.owed t = O) : (dat.owesAt false t : sProp 𝕄) ⊢ iprop(∃ W, owes (c : Thread nD τ) O W) := by
  unfold Dat.owesAt Pipeline.owesWithin; rw [h0]
  iintro ⟨%W, -, HO⟩; iexists W; iexact HO

/-- A whole staging buffer at named contents, in both of its spellings. -/
theorem owns_out (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns pt
  rw [h.set_eq_univ]
/-- Contents that read as `X`, as a staging buffer at `X`. -/
theorem owns_in (c : Dev nD) {sp : Space} {S : Shape} {e : EltTy} (M : Memref sig .tc sp S e) (h : M.IsWhole) (X : S.Idx → Elt F e) :
    iprop(∃ f : Bf (F := F) c M, ⌜M.view.read (Elt F) f = X⌝ ∗ pt c M f) ⊢ (owns (c : Thread nD τ) M fullShare X : sProp 𝕄) := by
  unfold owns pt
  rw [h.set_eq_univ]

/-! ## The scratch buffers in their parts -/

/-- Named contents are some contents. -/
theorem own_any {sp : Space} {S : Shape} {e : EltTy} (c : Dev nD) (M : Memref sig .tc sp S e) (f : Bf (F := F) c M) : (own c M f : sProp 𝕄) ⊢ ownAny c M := by
  iintro H; iexists f; iexact H

/-- The receive buffer in its chunks, with the cells that they land on opened, as what is handed to the others at the barrier. -/
theorem rows_intro (c : Dev nD) (f : Bf (F := F) c (Memref.whole cc0_scratch4)) :
    iprop(opened c ∗ pt c (Memref.whole cc0_scratch4) f) ⊢ (iprop(rowPay c 0 ∗ rowPay c 1 ∗ rowPay c 2) : sProp 𝕄) := by
  rw [recv_eq, rowPay_eq, rowPay_eq, rowPay_eq]
  iintro ⟨#HO, H00, H01, H02, H10, H11, H12, H20, H21, H22⟩
  isplitl [H00 H01 H02]
  · isplitl [H00]; · iexists f; iexact H00
    isplitl [H01]; · iexists f; iexact H01
    isplitl [H02]; · iexists f; iexact H02
    isplitr; · iapply (opened_at c (true, 0, 0)) $$ HO
    isplitr; · iapply (opened_at c (true, 0, 1)) $$ HO
    iapply (opened_at c (true, 0, 2)) $$ HO
  isplitl [H10 H11 H12]
  · isplitl [H10]; · iexists f; iexact H10
    isplitl [H11]; · iexists f; iexact H11
    isplitl [H12]; · iexists f; iexact H12
    isplitr; · iapply (opened_at c (true, 1, 0)) $$ HO
    isplitr; · iapply (opened_at c (true, 1, 1)) $$ HO
    iapply (opened_at c (true, 1, 2)) $$ HO
  isplitl [H20]; · iexists f; iexact H20
  isplitl [H21]; · iexists f; iexact H21
  isplitl [H22]; · iexists f; iexact H22
  isplitr; · iapply (opened_at c (true, 2, 0)) $$ HO
  isplitr; · iapply (opened_at c (true, 2, 1)) $$ HO
  iapply (opened_at c (true, 2, 2)) $$ HO

/-- The positions at the opened cells and the credits, offset by offset. -/
theorem posns_split (c : Dev nD) : iprop(posns c ∗ creds c) ⊢ (iprop(cred (tallyAt (barC c) true 3) ∗ posAt c 0 ∗ posAt c 1 ∗ posAt c 2) : sProp 𝕄) := by
  unfold posns creds
  rw [bigSep_Sc]
  iintro ⟨⟨S00, S01, S02, S10, S11, S12, S20, S21, S22, R00, R01, R02, R10, R11, R12, R20, R21, R22⟩, Hb, C0, C1, C2⟩
  isplitl [Hb]; · iexact Hb
  isplitl [S00 S01 S02 R00 R01 R02 C0]
  · isplitl [S00 S01 S02]
    · isplitl [S00]; · iexact S00
      isplitl [S01] <;> iassumption
    isplitl [R00 R01 R02]
    · isplitl [R00]; · iexact R00
      isplitl [R01] <;> iassumption
    iexact C0
  isplitl [S10 S11 S12 R10 R11 R12 C1]
  · isplitl [S10 S11 S12]
    · isplitl [S10]; · iexact S10
      isplitl [S11] <;> iassumption
    isplitl [R10 R11 R12]
    · isplitl [R10]; · iexact R10
      isplitl [R11] <;> iassumption
    iexact C1
  isplitl [S20 S21 S22]
  · isplitl [S20]; · iexact S20
    isplitl [S21] <;> iassumption
  isplitl [R20 R21 R22]
  · isplitl [R20]; · iexact R20
    isplitl [R21] <;> iassumption
  iexact C2

/-- What the first kernel does not stage, scratch by scratch, with the second kernel's beside. -/
theorem rest0_eq (c : Dev nD) : (Pipeline.scopedRest spec0 c : sProp 𝕄)
    = iprop((∃ f, pt c (Memref.whole cc0_scratch0) f) ∗ (∃ f, pt c (Memref.whole cc0_scratch1) f) ∗ (∃ f, pt c (Memref.whole cc0_scratch2) f)
      ∗ (∃ f, pt c (Memref.whole cc0_scratch3) f) ∗ (∃ f, pt c (Memref.whole cc0_scratch4) f) ∗ some_ c cc1_stg0_0 ∗ some_ c cc1_scratch0 ∗ some_ c cc1_scratch1 ∗ some_ c cc1_scratch2) :=
  scopedRest0_eq c
/-- The scoped buffers that are not the second region's windows. -/
theorem rest1_eq (c : Dev nD) : (Pipeline.scopedRest spec1 c : sProp 𝕄)
    = iprop(some_ c cc0_stg0_0 ∗ some_ c cc0_stg1_0 ∗ some_ c cc0_scratch0 ∗ some_ c cc0_scratch1 ∗ some_ c cc0_scratch2 ∗ some_ c cc0_scratch3 ∗ some_ c cc0_scratch4
      ∗ (∃ f, pt c (Memref.whole cc1_scratch0) f) ∗ (∃ f, pt c (Memref.whole cc1_scratch1) f) ∗ (∃ f, pt c (Memref.whole cc1_scratch2) f)) :=
  scopedRest1_eq c

/-- The first region's input window is fetched at every step. -/
theorem fetch0_first (t : Fin cfg0.N) : (cfg0.win (0 : Fin 2)).fetch t = true := fetch0_0 t
/-- The second region's input window is fetched at every step. -/
theorem fetch1_first (t : Fin cfg1.N) : (cfg1.win (0 : Fin 1)).fetch t = true := fetch1_0 t

/-- Before the first body everything of the launch is owed. -/
theorem owed0_first (c : Dev nD) : (dat0 m c).owed t0_0.castSucc = O₀ c := show (if (0 : ℕ) = 0 then O₀ c else 0) = O₀ c from if_pos rfl
/-- After it nothing is. -/
theorem owed0_last (c : Dev nD) : (dat0 m c).owed t0_0.succ = 0 := show (if (0 + 1 : ℕ) = 0 then O₀ c else 0) = 0 from if_neg (Nat.succ_ne_zero _)

/-- The first body finds the row of weights in its input window. -/
theorem before0 (c : Dev nD) (d) : (dat0 m c).before (0 : Fin 2) t0_0 d = gOf m c := by
  refine ((dat0 m c).before_fetched (0 : Fin 2) t0_0 (fetch0_first t0_0) d).trans ?_
  unfold Dat.fetched Dat.blockOf; dsimp only [dat0]
  funext j
  refine congrArg (gOf m c) (funext fun a => Fin.ext ?_)
  fin_cases a
  · exact (Nat.zero_add _).trans (Nat.one_mul _)
  · exact (Nat.zero_add _).trans (Nat.one_mul _)
/-- The second body finds the row of inverse roots in its input window. -/
theorem before1 (c : Dev nD) (d) : (dat1 m c).before (0 : Fin 1) t1_0 d = invOf m c := by
  refine ((dat1 m c).before_fetched (0 : Fin 1) t1_0 (fetch1_first t1_0) d).trans ?_
  unfold Dat.fetched Dat.blockOf; dsimp only [dat1]
  rw [U2_v2_1]
  funext j
  refine congrArg (invOf m c) (funext fun a => Fin.ext ?_)
  fin_cases a
  · exact (Nat.zero_add _).trans (Nat.one_mul _)
  · exact (Nat.zero_add _).trans (Nat.one_mul _)

set_option maxHeartbeats 400000 in
/-- The first kernel's body: from the opened protocol to everything closed again. -/
theorem body0 (c : Dev nD) : BodyObligation (dat0 m c) (defs₀ (F := F)) Variants.none false Set.univ := fun t => by
  obtain rfl := fin_N0 t
  rw [bigSep_W0, bigSep_W0]
  rw [show (dat0 m c).Φ t0_0.castSucc = Φ0 m c 0 from rfl, show (dat0 m c).Φ t0_0.succ = Φ0 m c 1 from rfl]
  unfold Φ0
  rw [if_pos rfl, if_neg Nat.one_ne_zero, rest0_eq, held0_eq, held0_eq, ownSems0_eq, show V1 m c (Proc.devRef .tc main_arg0) = xOf m c from rfl]
  unfold Xk
  show _ ⊢ wp frame (wpE (defs₀ (F := F)) Variants.none (c : Thread nD τ) none) Set.univ (bodyAt0 t0_0) _
  iintro ⟨⟨⟨⟨%g0, B0⟩, ⟨%g1, B1⟩, ⟨%g2, B2⟩, ⟨%g3, B3⟩, ⟨%g4, B4⟩, Hrest⟩, Hreg, ⟨Hx, Ho⟩, ⟨%κ, #HR, #HO, Hb, Hp, Ht⟩, Hc, Hsem, #Hlev⟩, How, ⟨%d0, W0⟩, ⟨%d1, W1⟩⟩
  ihave W0 := (owns_out c ((cfg0.win 0).stage (cfg0.slots t0_0 0)) (stage_whole0 0 _) _) $$ W0
  ihave W1 := (owns_out c ((cfg0.win 1).stage (cfg0.slots t0_0 1)) (stage_whole0 1 _) _) $$ W1
  icases W0 with ⟨%fg, %hg, W0⟩
  icases W1 with ⟨%fi, -, W1⟩
  rw [before0] at hg
  ihave How := (owes_out (dat0 m c) _ (O₀ c) (owed0_first m c)) $$ How
  icases How with ⟨%W, How⟩
  ihave Hx := (BIBase.Entails.of_eq (blks_eq c (Memref.whole main_arg0) (View.set_whole _) (xOf m c))) $$ Hx
  ihave Ho := (BIBase.Entails.of_eq (blks_eq c (Memref.whole main_v2_0) (View.set_whole _) (V1 m c main_v2_0))) $$ Ho
  ihave B0 := (BIBase.Entails.of_eq (slots3_eq c (Memref.whole cc0_scratch0) (View.set_whole _) g0)) $$ B0
  ihave B1 := (BIBase.Entails.of_eq (slots2_eq c (Memref.whole cc0_scratch1) (View.set_whole _) g1)) $$ B1
  ihave B3 := (BIBase.Entails.of_eq (sums_eq c g3)) $$ B3
  ihave B4 := (rows_intro c g4) $$ [B4]
  · isplitr; · iexact HO
    iexact B4
  ihave Hp := (posns_split c) $$ [Hp Hc]
  · isplitl [Hp] <;> iassumption
  icases Hp with ⟨Hcb, Hp⟩
  iapply (wp_fupd frame _ Set.univ)
  iapply (runA (sumsOf m) κ c ((cfg0.win 0).stage (cfg0.slots t0_0 0)) (stage_whole0 0 _) ((cfg0.win 1).stage (cfg0.slots t0_0 1)) (stage_whole0 1 _)
    fg fi (xOf m c) (V1 m c main_v2_0) g0 g1 g2 g3 W rfl _)
  isplitl [W0]; · iexact W0
  isplitl [W1]; · iexact W1
  isplitl [Hx]; · iexact Hx
  isplitl [Ho]; · iexact Ho
  isplitl [B0]; · iexact B0
  isplitl [B1]; · iexact B1
  isplitl [B2]; · iexact B2
  isplitl [B3]; · iexact B3
  isplitl [B4]; · iexact B4
  isplitr
  · isplitr; · iapply (inv_at m κ (bar_mem c)) $$ HR
    isplitr
    · iapply (invsAt_intro m κ c 0); isplitr <;> iassumption
    isplitr
    · iapply (invsAt_intro m κ c 1); isplitr <;> iassumption
    iapply (invsAt_intro m κ c 2); isplitr <;> iassumption
  isplitl [Ht]; · iexact Ht
  isplitl [Hb Hcb Hp]
  · isplitl [Hb]; · iexact Hb
    isplitl [Hcb]; · iexact Hcb
    iexact Hp
  isplitr; · iexact Hlev
  isplitl [Hsem]; · iexact Hsem
  isplitl [How]; · unfold O₀; iexact How
  unfold doneA
  rw [hg, show scaled (gOf m c) (xOf m c) = scOf m c from rfl,
    show invs (sumsOf m c) (sumsOf m (nx c 2)) (sumsOf m (nx c 1)) (sumsOf m (nx c 0)) = invOf m c from rfl]
  iintro ⟨W0, ⟨%fj, %hj, W1⟩, Hx, Ho, B0, B1, B2, B3, B4, ⟨Hb, Hd⟩, ⟨H2, H3, H4, H5, H6⟩, ⟨%W', How⟩⟩
  ihave Hd := (ends_intro c) $$ Hd
  imod (close0 m κ c) $$ [Hb Hd] with ⟨Hb, Hs⟩
  · isplitr; · iexact HR
    isplitl [Hb] <;> iassumption
  ihave Hx := (BIBase.Entails.of_eq (blks_eq c (Memref.whole main_arg0) (View.set_whole _) (xOf m c)).symm) $$ Hx
  ihave Ho := (BIBase.Entails.of_eq (blks_eq c (Memref.whole main_v2_0) (View.set_whole _) (scOf m c)).symm) $$ Ho
  ihave B0 := (slots3_join c (Memref.whole cc0_scratch0) (View.set_whole _) g0) $$ B0
  ihave B1 := (slots2_join c (Memref.whole cc0_scratch1) (View.set_whole _) g1) $$ B1
  ihave B3 := (sums_join c g3) $$ B3
  ihave B4 := (recv_join c g4) $$ B4
  ihave W0 := (owns_in c ((cfg0.win 0).stage (cfg0.slots t0_0 0)) (stage_whole0 0 _) (gOf m c)) $$ [W0]
  · iexists fg; isplitr; · ipureintro; exact hg
    iexact W0
  ihave W1 := (owns_in c ((cfg0.win 1).stage (cfg0.slots t0_0 1)) (stage_whole0 1 _) (invOf m c)) $$ [W1]
  · iexists fj; isplitr; · ipureintro; exact hj
    iexact W1
  ihave How := (owes_in (dat0 m c) t0_0.succ 0 (owed0_last m c) rfl W') $$ How
  rw [U2_arg0, U2_v2_0]
  imodintro
  isplitr [How W0 W1]
  · isplitl [B0 B1 B2 B3 B4 Hrest]
    · isplitl [B0]; · iexact B0
      isplitl [B1]; · iexact B1
      isplitl [B2]; · iexact B2
      isplitl [B3]; · iexact B3
      isplitl [B4]; · iexact B4
      iexact Hrest
    isplitl [Hreg]; · iexact Hreg
    isplitl [Hx Ho]; · isplitl [Hx] <;> iassumption
    isplitr [Hb]
    · isplitl [H2]; · iexact H2
      isplitl [H3]; · iexact H3
      isplitl [H4]; · iexact H4
      isplitl [H5]; · iexact H5
      isplitl [H6]; · iexact H6
      iexact Hs
    unfold Yk; iexact Hb
  isplitl [How]; · iexact How
  isplitl [W0]; · iexact W0
  iexact W1

/-- The second kernel's body. -/
theorem body1 (c : Dev nD) : BodyObligation (dat1 m c) (defs₀ (F := F)) Variants.none false Set.univ := fun t => by
  obtain rfl := fin_N1 t
  rw [bigSep_W1, bigSep_W1]
  rw [show (dat1 m c).Φ t1_0.castSucc = Φ1 m c 0 from rfl, show (dat1 m c).Φ t1_0.succ = Φ1 m c 1 from rfl]
  unfold Φ1
  rw [if_pos rfl, if_neg Nat.one_ne_zero, rest1_eq, held1_eq, held1_eq, ownSems1_eq]
  show _ ⊢ wp frame (wpE (defs₀ (F := F)) Variants.none (c : Thread nD τ) none) Set.univ (bodyAt1 t1_0) _
  iintro ⟨⟨⟨R0, R1, R2, R3, R4, R5, R6, ⟨%g0, B0⟩, ⟨%g1, B1⟩, ⟨%g2, B2⟩⟩, Hreg, ⟨Hx, Ho⟩, Hsem, Hy⟩, How, ⟨%d0, W0⟩⟩
  ihave W0 := (owns_out c ((cfg1.win 0).stage (cfg1.slots t1_0 0)) (stage_whole1 0 _) _) $$ W0
  icases W0 with ⟨%fi, %hi, W0⟩
  rw [before1] at hi
  ihave How := (owes_out (dat1 m c) _ 0 rfl) $$ How
  icases How with ⟨%W, How⟩
  rw [U2_v2_0, U3_v2_0, U3_v3]
  ihave Hx := (BIBase.Entails.of_eq (blks_eq c (Memref.whole main_v2_0) (View.set_whole _) (scOf m c))) $$ Hx
  ihave Ho := (BIBase.Entails.of_eq (blks_eq c (Memref.whole main_v3) (View.set_whole _) (U2 m c main_v3))) $$ Ho
  ihave B0 := (BIBase.Entails.of_eq (slots3_eq c (Memref.whole cc1_scratch0) (View.set_whole _) g0)) $$ B0
  ihave B1 := (BIBase.Entails.of_eq (slots2_eq c (Memref.whole cc1_scratch1) (View.set_whole _) g1)) $$ B1
  iapply (runB c ((cfg1.win 0).stage (cfg1.slots t1_0 0)) (stage_whole1 0 _) fi (scOf m c) (U2 m c main_v3) g0 g1 g2 W _)
  isplitl [W0]; · iexact W0
  isplitl [Hx]; · iexact Hx
  isplitl [Ho]; · iexact Ho
  isplitl [B0]; · iexact B0
  isplitl [B1]; · iexact B1
  isplitl [B2]; · iexact B2
  isplitl [Hsem]; · iexact Hsem
  isplitl [How]; · iexact How
  unfold doneB
  rw [hi, show outs (invOf m c) (scOf m c) = outOf m c from rfl]
  iintro ⟨W0, Hx, Ho, B0, B1, B2, Hsem, ⟨%W', How⟩⟩
  ihave Hx := (BIBase.Entails.of_eq (blks_eq c (Memref.whole main_v2_0) (View.set_whole _) (scOf m c)).symm) $$ Hx
  ihave Ho := (BIBase.Entails.of_eq (blks_eq c (Memref.whole main_v3) (View.set_whole _) (outOf m c)).symm) $$ Ho
  ihave B0 := (slots3_join c (Memref.whole cc1_scratch0) (View.set_whole _) g0) $$ B0
  ihave B1 := (slots2_join c (Memref.whole cc1_scratch1) (View.set_whole _) g1) $$ B1
  ihave W0 := (owns_in c ((cfg1.win 0).stage (cfg1.slots t1_0 0)) (stage_whole1 0 _) (invOf m c)) $$ [W0]
  · iexists fi; isplitr; · ipureintro; exact hi
    iexact W0
  ihave How := (owes_in (dat1 m c) t1_0.succ 0 rfl rfl W') $$ How
  isplitr [How W0]
  · isplitl [R0 R1 R2 R3 R4 R5 R6 B0 B1 B2]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [B0]; · iexact B0
      isplitl [B1] <;> iassumption
    isplitl [Hreg]; · iexact Hreg
    isplitl [Hx Ho]; · isplitl [Hx] <;> iassumption
    isplitl [Hsem] <;> iassumption
  isplitl [How]; · iexact How
  iexact W0

end Cert.Proof.Norm
-- ==== Proof.Segments.lean ====
module

public import proofs.«01_k».proof.Proof.Bodies

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Bool (Elt F) ℕ UU ℕ

variable (m : (ℓ : Loc nD τ sig) → Buf (Elt F) ℓ)

/-- The two regions' data. -/
def pdats : (p : Fin 2) → (c : Dev nD) → Dat τ (Elt F) Bool ℕ UU ℕ (Pipeline.pin (pcfgs (F := F)) adm p) c
  | 0, c => dat0 m c
  | 1, c => dat1 m c

/-! ## What is owed, and below which level -/

/-- Whatever is owed at launch is owed to a tensor core's cell, above the level of a core's own transfers. -/
theorem O₀_pos {c : Dev nD} {g : GSem nD τ sig} {ι : Bool} (h : 0 < O₀ c g ι) : ι ∈ L g ∧ 0 < lv g ι := by
  have hb : ∀ d : Dev nD, 0 < (tallyAt (barC d) true 1 : CellTallies nD τ sig Bool) g ι → ι ∈ L g ∧ 0 < lv g ι := by
    intro d hd
    rw [tallyAt_apply] at hd
    by_cases e : g = barC d ∧ ι = true
    · obtain ⟨rfl, rfl⟩ := e
      exact ⟨by rw [L_tc]; exact Finset.mem_univ _, by rw [lv_bar]; decide⟩
    · rw [if_neg e] at hd; exact absurd hd (Nat.lt_irrefl 0)
  have hr : ∀ ch : Fin 3, 0 < oR c ch g ι → ι ∈ L g ∧ 0 < lv g ι := by
    intro ch hd
    obtain ⟨d, o, k, rfl, rfl⟩ := onRcv_oR c ch g ι hd
    exact ⟨by rw [L_tc]; exact Finset.mem_univ _, by rw [lv_rcv]; decide⟩
  have hs : 0 < oR c 2 g ι + oR c 1 g ι + oR c 0 g ι + (tallyAt (barC (nx c 2)) true 1 : CellTallies nD τ sig Bool) g ι
      + (tallyAt (barC (nx c 1)) true 1 : CellTallies nD τ sig Bool) g ι + (tallyAt (barC (nx c 0)) true 1 : CellTallies nD τ sig Bool) g ι := h
  by_contra hn
  have z : ∀ n : ℕ, (0 < n → ι ∈ L g ∧ 0 < lv g ι) → n = 0 := fun n hh => Nat.eq_zero_of_not_pos fun hp => hn (hh hp)
  rw [z _ (hr 2), z _ (hr 1), z _ (hr 0), z _ (hb (nx c 2)), z _ (hb (nx c 1)), z _ (hb (nx c 0))] at hs
  exact absurd hs (Nat.lt_irrefl 0)

/-- The first region's pipeline may wait for its own transfers below all that is owed. -/
theorem cut0 : Pipeline.LevelCutOwed (pcfgs (F := F)) adm (pdats m) false L lv 0 (fun _ => 0) where
  hι c w s := by rw [L_tc]; exact Finset.mem_univ _
  hιb c w s := le_refl 0
  hD c t g i h := by
    have e : (pdats m 0 c).owed t = if t.val = 0 then O₀ c else 0 := rfl
    rw [e] at h
    split at h
    · exact O₀_pos h
    · exact absurd h (Nat.lt_irrefl 0)
/-- So may the second's, which owes nothing. -/
theorem cut1 : Pipeline.LevelCutOwed (pcfgs (F := F)) adm (pdats m) false L lv 1 (fun _ => 0) where
  hι c w s := by rw [L_tc]; exact Finset.mem_univ _
  hιb c w s := le_refl 0
  hD c t g i h := absurd h (Nat.lt_irrefl 0)

/-! ## What the windows' arrays hold after each region -/

/-- The windows' arrays after the first region. -/
theorem arr0 (c : Dev nD) (w : Fin 2) : (dat0 m c).arrAt w cfg0.N = U2 m c (Proc.devRef .tc (Pipeline.arrRef spec0 w)) := by
  fin_cases w
  · refine ((dat0 m c).arrAt_in (0 : Fin 2) rfl _).trans ?_
    exact (V2_of m (left m) c main_v1 (by decide)).symm
  · refine (Dat.arrAt_eq_of_after_last (dat0 m c) (1 : Fin 2) t0_0 (by decide +kernel) (invOf m c) (fun j => ?_)).trans (U2_v2_1 m c).symm
    rfl
/-- The window's array after the second region. -/
theorem arr1 (c : Dev nD) (w : Fin 1) : (dat1 m c).arrAt w cfg1.N = U3 m c (Proc.devRef .tc (Pipeline.arrRef spec1 w)) := by
  fin_cases w
  refine ((dat1 m c).arrAt_in (0 : Fin 1) rfl _).trans ?_
  exact (V3_of m (left m) c main_v2_1 (by decide)).symm

/-! ## The other buffers -/

/-- The unscoped buffers that are not the first region's windows' arrays. -/
abbrev sr0 : Finset (DevRef τ sig) := Pipeline.ucRefs τ sig \ Pipeline.arrRefs spec0
/-- Those that are not the second region's. -/
abbrev sr1 : Finset (DevRef τ sig) := Pipeline.ucRefs τ sig \ Pipeline.arrRefs spec1

/-- The first region changes no other buffer. -/
theorem keep0 (c : Dev nD) (b : DevRef τ sig) (hb : b ∈ sr0 \ hs0) : U2 m c b = V1 m c b := by
  rw [Finset.mem_sdiff, Finset.mem_sdiff] at hb
  unfold U2 V2
  rw [Function.update_of_ne (fun e => hb.2 (by rw [e]; decide)), Function.update_of_ne (fun e => hb.1.2 (by rw [e]; decide))]
/-- The second region changes no other buffer. -/
theorem keep1 (c : Dev nD) (b : DevRef τ sig) (hb : b ∈ sr1 \ hs1) : U3 m c b = U2 m c b := by
  rw [Finset.mem_sdiff] at hb
  unfold U3 V3
  rw [Function.update_of_ne (fun e => hb.2 (by rw [e]; decide)), Function.update_of_ne (fun e => hb.2 (by rw [e]; decide))]

/-! ## The regions -/

set_option backward.isDefEq.respectTransparency.types false in
/-- The first region: the protocol goes in, the barrier's counter comes out. -/
def reg0 : Pipeline.RegionSeg (pcfgs (F := F)) adm (pdats m) false defs₀ Variants.none L lv 0 :=
  Pipeline.RegionSeg.ofTalk (pcfgs (F := F)) adm (pdats m) false defs₀ Variants.none L lv 0 osem0 (by decide : Pipeline.OwnSemFacts spec0 osem0)
    hs0 sr0 (by decide) launch0.toP rfl (fun c => (body0 m c).loose)
    (fun _ => 0) O₀ (fun c => (owed0_first m c).trans (zero_add _).symm) (fun c => owed0_last m c) (fun _ => rfl)
    (fun c w => by show (dat0 m c).share w = fullShare; unfold Dat.share; split <;> rfl)
    (V1 m) (U2 m) (keep0 m) (Tk m) Yk (Xk m) Yk (open0 m)
    (fun c => BIBase.Entails.of_eq (show _ = Φ0 m c 0 from (if_pos rfl).symm))
    (fun c => BIBase.Entails.of_eq (show Φ0 m c 1 = _ from if_neg Nat.one_ne_zero))
    (fun c => by iintro H; imodintro; iexact H)
    (fun _ => 0) (cut0 m) (fun _ => iprop(emp))
    (fun c w => by fin_cases w <;> rfl) (arr0 m)

set_option backward.isDefEq.respectTransparency.types false in
/-- The second region, the barrier's counter riding along. -/
def reg1 : Pipeline.RegionSeg (pcfgs (F := F)) adm (pdats m) false defs₀ Variants.none L lv 1 :=
  Pipeline.RegionSeg.ofTalk (pcfgs (F := F)) adm (pdats m) false defs₀ Variants.none L lv 1 osem1 (by decide : Pipeline.OwnSemFacts spec1 osem1)
    hs1 sr1 (by decide) launch1.toP rfl (fun c => (body1 m c).loose)
    (fun _ => 0) (fun _ => 0) (fun c => (zero_add _).symm) (fun c => rfl) (fun _ => rfl)
    (fun c w => by show (dat1 m c).share w = fullShare; unfold Dat.share; split <;> rfl)
    (U2 m) (U3 m) (keep1 m) Yk Yk (fun c => iprop(Pipeline.ownSems0 osem1 c ∗ Yk c)) Yk
    (fun c => by
      iintro ⟨Hy, Hs, -⟩
      imodintro
      isplitl [Hs] <;> iassumption)
    (fun c => BIBase.Entails.of_eq (show _ = Φ1 m c 0 from (if_pos rfl).symm))
    (fun c => BIBase.Entails.of_eq (show Φ1 m c 1 = _ from if_neg Nat.one_ne_zero))
    (fun c => by iintro H; imodintro; iexact H)
    (fun _ => 0) (cut1 m) (fun _ => iprop(emp))
    (fun c w => by fin_cases w; rfl) (arr1 m)

/-! ## Between the regions -/

/-- What rides beside the unscoped buffers: before the first region the protocol and the debts, then the barrier's counter at zero. -/
def rideA (c : Dev nD) : sProp 𝕄 := iprop((∃ r, prngReg c r) ∗ Tk m c ∗ ∃ W, owes (c : Thread nD τ) (O₀ c) W)
/-- After the first region: the barrier's counter, nothing owed. -/
def rideB (c : Dev nD) : sProp 𝕄 := iprop((∃ r, prngReg c r) ∗ Yk c ∗ ∃ W, owes (c : Thread nD τ) (0 : CellTallies nD τ sig Bool) W)
/-- What rides at each of the three points. -/
def rides : Fin 3 → Dev nD → sProp 𝕄
  | 0 => rideA m
  | 1 => rideB
  | 2 => rideB

/-- The state before the first region is what it takes. -/
theorem pre0 (c : Dev nD) : iprop(StableHlo.held (c : Thread nD τ) (Pipeline.ucRefs τ sig) (V1 m c) ∗ rides m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) sr0 (V1 m c) ∗ emp) ∗ Tk m c ∗ ∃ Wd, owes (c : Thread nD τ) (0 + O₀ c) Wd)
  rw [zero_add, StableHlo.held_sub_split (c : Thread nD τ) (show Pipeline.arrRefs (τ := τ) spec0 ⊆ Pipeline.ucRefs τ sig by decide) (V1 m c)]
  rw [show rides m 0 c = rideA m c from rfl]; unfold rideA
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption
/-- What the first region gives is the state after it. -/
theorem post0 (c : Dev nD) : (reg0 m).post c ⊢ iprop(StableHlo.held (c : Thread nD τ) (Pipeline.ucRefs τ sig) (U2 m c) ∗ rides m 1 c) := by
  show iprop(StableHlo.held (c : Thread nD τ) (Pipeline.arrRefs (τ := τ) spec0) (U2 m c) ∗ (∃ r, prngReg c r)
    ∗ (StableHlo.held (c : Thread nD τ) sr0 (U2 m c) ∗ emp) ∗ Yk c ∗ ∃ Wd, owes (c : Thread nD τ) 0 Wd) ⊢ _
  rw [StableHlo.held_sub_split (c : Thread nD τ) (show Pipeline.arrRefs (τ := τ) spec0 ⊆ Pipeline.ucRefs τ sig by decide) (U2 m c)]
  rw [show rides m 1 c = rideB c from rfl]; unfold rideB
  iintro ⟨Ha, Hp, ⟨Hr, -⟩, HT, HO⟩
  isplitl [Ha Hr]
  · isplitl [Ha] <;> iassumption
  isplitl [Hp]; · iexact Hp
  isplitl [HT] <;> iassumption
/-- That state is what the second region takes. -/
theorem pre1 (c : Dev nD) : iprop(StableHlo.held (c : Thread nD τ) (Pipeline.ucRefs τ sig) (U2 m c) ∗ rides m 1 c) ⊢ (reg1 m).pre c := by
  show _ ⊢ iprop(StableHlo.held (c : Thread nD τ) (Pipeline.arrRefs (τ := τ) spec1) (U2 m c) ∗ (∃ r, prngReg c r)
    ∗ (StableHlo.held (c : Thread nD τ) sr1 (U2 m c) ∗ emp) ∗ Yk c ∗ ∃ Wd, owes (c : Thread nD τ) (0 + 0) Wd)
  rw [zero_add, StableHlo.held_sub_split (c : Thread nD τ) (show Pipeline.arrRefs (τ := τ) spec1 ⊆ Pipeline.ucRefs τ sig by decide) (U2 m c)]
  rw [show rides m 1 c = rideB c from rfl]; unfold rideB
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption
/-- What the second region gives is the last state. -/
theorem post1 (c : Dev nD) : (reg1 m).post c ⊢ iprop(StableHlo.held (c : Thread nD τ) (Pipeline.ucRefs τ sig) (U3 m c) ∗ rides m 2 c) := by
  show iprop(StableHlo.held (c : Thread nD τ) (Pipeline.arrRefs (τ := τ) spec1) (U3 m c) ∗ (∃ r, prngReg c r)
    ∗ (StableHlo.held (c : Thread nD τ) sr1 (U3 m c) ∗ emp) ∗ Yk c ∗ ∃ Wd, owes (c : Thread nD τ) 0 Wd) ⊢ _
  rw [StableHlo.held_sub_split (c : Thread nD τ) (show Pipeline.arrRefs (τ := τ) spec1 ⊆ Pipeline.ucRefs τ sig by decide) (U3 m c)]
  rw [show rides m 2 c = rideB c from rfl]; unfold rideB
  iintro ⟨Ha, Hp, ⟨Hr, -⟩, HT, HO⟩
  isplitl [Ha Hr]
  · isplitl [Ha] <;> iassumption
  isplitl [Hp]; · iexact Hp
  isplitl [HT] <;> iassumption

end Cert.Proof.Norm
-- ==== Proof.Launch.lean ====
module

public import proofs.«01_k».proof.Proof.Segments

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Bool (Elt F) ℕ UU ℕ

variable (m : (ℓ : Loc nD τ sig) → Buf (Elt F) ℓ)

/-! ## The tokens of every duty -/

/-- A core's duties: three at its barrier, one at each of its send and receive cells. -/
abbrev Due : Type := Fin 3 ⊕ Sc
/-- The cell, the round and the number of a duty. -/
abbrev dueOf : Due → SemLoc sig × ℕ × Fin 3
  | .inl o => (barS, 0, o)
  | .inr k => (scS k, 0, 0)
/-- No two duties of a core are one. -/
theorem dueOf_inj : Function.Injective dueOf := by decide
/-- All duties of all cores. -/
def dues : Finset (GSem nD τ sig × ℕ × Fin 3) :=
  Finset.univ.map ⟨fun p : Dev nD × Due => (((p.1 : Thread nD τ), (dueOf p.2).1), (dueOf p.2).2), fun _ _ h =>
    Prod.ext (congrArg (fun t : GSem nD τ sig × ℕ × Fin 3 => t.1.1.1) h)
      (dueOf_inj (Prod.ext (congrArg (fun t : GSem nD τ sig × ℕ × Fin 3 => t.1.2) h) (congrArg (fun t : GSem nD τ sig × ℕ × Fin 3 => t.2) h)))⟩

/-- At offset `o`, the tokens of device `d`'s own cells that the device `o + 1` places before it pays, and those that `d` pays itself. -/
def tokIn (d : Dev nD) (o : Fin 3) : sProp 𝕄 :=
  iprop(dutyTok ER (barC d) 0 o ∗ (dutyTok ER (rcvC d o 0) 0 0 ∗ dutyTok ER (rcvC d o 1) 0 0 ∗ dutyTok ER (rcvC d o 2) 0 0))
/-- At offset `o`, the tokens of device `d`'s own send cells, which its own copies pay. -/
def tokOut (d : Dev nD) (o : Fin 3) : sProp 𝕄 :=
  iprop(dutyTok ER (sndC d o 0) 0 0 ∗ dutyTok ER (sndC d o 1) 0 0 ∗ dutyTok ER (sndC d o 2) 0 0)
/-- All tokens of device `d`'s cells. -/
def toks (d : Dev nD) : sProp 𝕄 :=
  iprop((tokIn d 0 ∗ tokIn d 1 ∗ tokIn d 2) ∗ (tokOut d 0 ∗ tokOut d 1 ∗ tokOut d 2))

/-- A conjunction over a core's duties, written out. -/
theorem bigSep_Due {M : Type} [URA M] (Φ : Due → sProp M) : bigSep Finset.univ Φ
    = iprop(Φ (.inl 0) ∗ Φ (.inl 1) ∗ Φ (.inl 2)
      ∗ Φ (.inr (false, 0, 0)) ∗ Φ (.inr (false, 0, 1)) ∗ Φ (.inr (false, 0, 2)) ∗ Φ (.inr (false, 1, 0)) ∗ Φ (.inr (false, 1, 1)) ∗ Φ (.inr (false, 1, 2))
      ∗ Φ (.inr (false, 2, 0)) ∗ Φ (.inr (false, 2, 1)) ∗ Φ (.inr (false, 2, 2))
      ∗ Φ (.inr (true, 0, 0)) ∗ Φ (.inr (true, 0, 1)) ∗ Φ (.inr (true, 0, 2)) ∗ Φ (.inr (true, 1, 0)) ∗ Φ (.inr (true, 1, 1)) ∗ Φ (.inr (true, 1, 2))
      ∗ Φ (.inr (true, 2, 0)) ∗ Φ (.inr (true, 2, 1)) ∗ Φ (.inr (true, 2, 2))) :=
  bigSep_univ_eq_bigSepL ([.inl 0, .inl 1, .inl 2,
    .inr (false, 0, 0), .inr (false, 0, 1), .inr (false, 0, 2), .inr (false, 1, 0), .inr (false, 1, 1), .inr (false, 1, 2),
    .inr (false, 2, 0), .inr (false, 2, 1), .inr (false, 2, 2),
    .inr (true, 0, 0), .inr (true, 0, 1), .inr (true, 0, 2), .inr (true, 1, 0), .inr (true, 1, 1), .inr (true, 1, 2),
    .inr (true, 2, 0), .inr (true, 2, 1), .inr (true, 2, 2)] : List Due) (by decide) (by decide) Φ

/-- The tokens of a core's duties, sorted by offset. -/
theorem tok_core (d : Dev nD) :
    (bigSep Finset.univ fun q : Due => dutyTok ER ((d : Thread nD τ), (dueOf q).1) (dueOf q).2.1 (dueOf q).2.2) ⊢ (toks d : sProp 𝕄) := by
  rw [bigSep_Due]
  show iprop(dutyTok ER (barC d) 0 0 ∗ dutyTok ER (barC d) 0 1 ∗ dutyTok ER (barC d) 0 2
      ∗ dutyTok ER (sndC d 0 0) 0 0 ∗ dutyTok ER (sndC d 0 1) 0 0 ∗ dutyTok ER (sndC d 0 2) 0 0
      ∗ dutyTok ER (sndC d 1 0) 0 0 ∗ dutyTok ER (sndC d 1 1) 0 0 ∗ dutyTok ER (sndC d 1 2) 0 0
      ∗ dutyTok ER (sndC d 2 0) 0 0 ∗ dutyTok ER (sndC d 2 1) 0 0 ∗ dutyTok ER (sndC d 2 2) 0 0
      ∗ dutyTok ER (rcvC d 0 0) 0 0 ∗ dutyTok ER (rcvC d 0 1) 0 0 ∗ dutyTok ER (rcvC d 0 2) 0 0
      ∗ dutyTok ER (rcvC d 1 0) 0 0 ∗ dutyTok ER (rcvC d 1 1) 0 0 ∗ dutyTok ER (rcvC d 1 2) 0 0
      ∗ dutyTok ER (rcvC d 2 0) 0 0 ∗ dutyTok ER (rcvC d 2 1) 0 0 ∗ dutyTok ER (rcvC d 2 2) 0 0) ⊢ (toks d : sProp 𝕄)
  unfold toks tokIn tokOut
  iintro ⟨B0, B1, B2, S00, S01, S02, S10, S11, S12, S20, S21, S22, R00, R01, R02, R10, R11, R12, R20, R21, R22⟩
  isplitl [B0 B1 B2 R00 R01 R02 R10 R11 R12 R20 R21 R22]
  · isplitl [B0 R00 R01 R02]
    · isplitl [B0]; · iexact B0
      isplitl [R00]; · iexact R00
      isplitl [R01]; · iexact R01
      iexact R02
    isplitl [B1 R10 R11 R12]
    · isplitl [B1]; · iexact B1
      isplitl [R10]; · iexact R10
      isplitl [R11]; · iexact R11
      iexact R12
    isplitl [B2]; · iexact B2
    isplitl [R20]; · iexact R20
    isplitl [R21]; · iexact R21
    iexact R22
  isplitl [S00 S01 S02]
  · isplitl [S00]; · iexact S00
    isplitl [S01]; · iexact S01
    iexact S02
  isplitl [S10 S11 S12]
  · isplitl [S10]; · iexact S10
    isplitl [S11]; · iexact S11
    iexact S12
  isplitl [S20]; · iexact S20
  isplitl [S21]; · iexact S21
  iexact S22

/-- The tokens of all duties, core by core. -/
theorem dues_split : bigSep dues (fun x => (dutyTok ER x.1 x.2.1 x.2.2 : sProp 𝕄)) ⊢ bigSep Finset.univ fun d : Dev nD => toks d := by
  have h : ∀ d : Dev nD, (bigSep Finset.univ fun q : Due => dutyTok ER ((d : Thread nD τ), (dueOf q).1) (dueOf q).2.1 (dueOf q).2.2) ⊢ (toks d : sProp 𝕄) := tok_core
  unfold dues; rw [bigSep_map, bigSep_univ_prod]
  exact bigSep_mono fun d _ => h d

/-- The devices turned by `o + 1` places. -/
def turn (o : Fin 3) : Dev nD ≃ Dev nD := ⟨fun d => nx d o, fun d => nx d (rev o), fun d => nx_rev d o, fun d => nx_rev' d o⟩

/-- Every token handed to the device that pays the duty. -/
theorem toks_dealt : (bigSep Finset.univ fun d : Dev nD => (toks d : sProp 𝕄)) ⊢ bigSep Finset.univ fun c : Dev nD => iprop(toksAt c 0 ∗ toksAt c 1 ∗ toksAt c 2) := by
  have h : ∀ c : Dev nD, iprop((tokIn (nx c 0) 0 ∗ tokIn (nx c 1) 1 ∗ tokIn (nx c 2) 2) ∗ (tokOut c 0 ∗ tokOut c 1 ∗ tokOut c 2))
      ⊢ (iprop(toksAt c 0 ∗ toksAt c 1 ∗ toksAt c 2) : sProp 𝕄) := by
    intro c
    unfold tokIn tokOut
    iintro ⟨⟨⟨B0, R0⟩, ⟨B1, R1⟩, ⟨B2, R2⟩⟩, S0, S1, S2⟩
    isplitl [B0 R0 S0]
    · isplitl [B0]; · iexact B0
      isplitl [R0]; · iexact R0
      iexact S0
    isplitl [B1 R1 S1]
    · isplitl [B1]; · iexact B1
      isplitl [R1]; · iexact R1
      iexact S1
    isplitl [B2]; · iexact B2
    isplitl [R2]; · iexact R2
    iexact S2
  refine BIBase.Entails.trans ?_ (bigSep_mono fun c _ => h c)
  unfold toks
  rw [bigSep_sep', bigSep_sep', bigSep_sep', bigSep_sep', bigSep_sep', bigSep_sep', bigSep_sep', bigSep_sep', bigSep_sep', bigSep_sep',
    bigSep_univ_equiv (turn 0) (fun d : Dev nD => (tokIn d 0 : sProp 𝕄)), bigSep_univ_equiv (turn 1) (fun d : Dev nD => (tokIn d 1 : sProp 𝕄)),
    bigSep_univ_equiv (turn 2) (fun d : Dev nD => (tokIn d 2 : sProp 𝕄))]
  exact BIBase.Entails.of_eq rfl

/-! ## The credits -/

/-- What is promised at launch to a core's receive cell: one chunk's credit, by the device that sends it. -/
theorem cred_rcv (o ch : Fin 3) (c : Dev nD) :
    (Pipeline.launchCred (fun d => tallyAt (rcvC (nx d o) o ch) true 256) c : sProp 𝕄) ⊢ cred (tallyAt (rcvC c o ch) true 256) :=
  Pipeline.launchCred_tallyAt (rcvS o ch) (fun d => nx d o) (fun d => nx d (rev o)) (fun d => nx_rev' d o) (fun d => nx_rev d o) true 256 c
/-- What is promised to its barrier by one other device: one unit. -/
theorem cred_bar (o : Fin 3) (c : Dev nD) :
    (Pipeline.launchCred (fun d => tallyAt (barC (nx d o)) true 1) c : sProp 𝕄) ⊢ cred (tallyAt (barC c) true 1) :=
  Pipeline.launchCred_tallyAt barS (fun d => nx d o) (fun d => nx d (rev o)) (fun d => nx_rev' d o) (fun d => nx_rev d o) true 1 c

/-- All that is promised to a core's cells is the credits that it carries. -/
theorem creds_dealt (c : Dev nD) : (Pipeline.launchCred O₀ c : sProp 𝕄) ⊢ creds c := by
  unfold O₀ oR
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add]
  iintro ⟨⟨⟨⟨⟨⟨⟨R22, R12⟩, R02⟩, ⟨R21, R11⟩, R01⟩, ⟨R20, R10⟩, R00⟩, B2⟩, B1⟩, B0⟩
  ihave R00 := (cred_rcv 0 0 c) $$ R00
  ihave R01 := (cred_rcv 0 1 c) $$ R01
  ihave R02 := (cred_rcv 0 2 c) $$ R02
  ihave R10 := (cred_rcv 1 0 c) $$ R10
  ihave R11 := (cred_rcv 1 1 c) $$ R11
  ihave R12 := (cred_rcv 1 2 c) $$ R12
  ihave R20 := (cred_rcv 2 0 c) $$ R20
  ihave R21 := (cred_rcv 2 1 c) $$ R21
  ihave R22 := (cred_rcv 2 2 c) $$ R22
  ihave B0 := (cred_bar 0 c) $$ B0
  ihave B1 := (cred_bar 1 c) $$ B1
  ihave B2 := (cred_bar 2 c) $$ B2
  unfold creds
  isplitl [B0 B1 B2]
  · rw [show tallyAt (barC c) true 3 = tallyAt (barC c) true 1 + (tallyAt (barC c) true 1 + tallyAt (barC c) true 1) from by
      rw [tallyAt_add, tallyAt_add]]
    iapply (cred_add _ _).2
    isplitl [B0]; · iexact B0
    iapply (cred_add _ _).2
    isplitl [B1] <;> iassumption
  isplitl [R00 R01 R02]
  · isplitl [R00]; · iexact R00
    isplitl [R01] <;> iassumption
  isplitl [R10 R11 R12]
  · isplitl [R10]; · iexact R10
    isplitl [R11] <;> iassumption
  isplitl [R20]; · iexact R20
  isplitl [R21] <;> iassumption

/-! ## The launch -/

/-- No barrier cell is a send or receive cell. -/
theorem cells_disjoint : Disjoint (barCells : Finset (GSem nD τ sig)) scCells := by
  rw [Finset.disjoint_left]
  rintro g h₁ h₂
  obtain ⟨c, -, rfl⟩ := Finset.mem_map.mp h₁
  obtain ⟨k, -, h⟩ := Finset.mem_map.mp h₂
  exact scS_ne_bar k.2 (congrArg Prod.snd h)

/-- A core's only counter outside the kernels is its barrier's. -/
theorem unscoped_sems (c : Dev nD) : (unscopedSems0 c : sProp 𝕄) = semVal (barC c) 0 := by
  unfold unscopedSems0
  rw [show (Finset.univ.filter fun sm : SemLoc sig => ¬ sm.isScoped .tc) = {barS} from by decide, BI.bigSep_singleton]
/-- The barrier is the only semaphore that is not a kernel's own. -/
theorem unscoped_only : ∀ sm : SemLoc sig, sm.isScoped .tc = false → sm = barS := by decide

/-- The launch element: the staging cells', the protocol's. -/
def u₀ : UU :=
  (initOf (Pipeline.cells (Pipeline.pin (pcfgs (F := F)) adm) cellOf_inj) (Pipeline.launchToks (Pipeline.pin (pcfgs (F := F)) adm) cellOf_inj),
    (Emb.inl : Emb UC (UC × Counters)) (launchOf barCells scCells dues))

/-- The protocol's launch element, whole, on device 0 until every device's holdings are at hand. -/
def parked (c : Dev nD) : sProp 𝕄 := if c = 0 then BI.own (ER (launchOf barCells scCells dues)) else iprop(emp)
/-- What the devices have of the protocol's launch element is that element. -/
theorem parked_all : (bigSep Finset.univ fun c : Dev nD => (parked c : sProp 𝕄)) = BI.own (ER (launchOf barCells scCells dues)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- A core's launch holdings that are not the protocol's. -/
def plain (c : Dev nD) : sProp 𝕄 :=
  iprop(StableHlo.held (c : Thread nD τ) (Pipeline.ucRefs τ sig) (V0 m c) ∗ creds c ∗ owes (c : Thread nD τ) (O₀ c) ∅ ∗ ∃ r, prngReg c r)

/-- A core's first state: every unscoped buffer as launched, and the protocol. -/
abbrev T₀ (c : Dev nD) : sProp 𝕄 := iprop(StableHlo.held (c : Thread nD τ) (Pipeline.ucRefs τ sig) (V0 m c) ∗ rides m 0 c)
/-- Its last state: every buffer as both kernels leave it, the barrier's counter at zero. -/
abbrev Tₙ (c : Dev nD) : sProp 𝕄 := iprop(StableHlo.held (c : Thread nD τ) (Pipeline.ucRefs τ sig) (U3 m c) ∗ Yk c)

/-- A core's first state from the records, its positions and tokens, and its other holdings. -/
theorem T₀_intro (κ : GSem nD τ sig → ℕ) (c : Dev nD) : iprop(records m κ ∗ (linear c ∗ plain m c)) ⊢ (T₀ m c : sProp 𝕄) := by
  unfold T₀ plain
  rw [show rides m 0 c = rideA m c from rfl]
  unfold rideA Tk
  iintro ⟨#HR, Hl, Hh, Hc, HO, Hp⟩
  isplitl [Hh]; · iexact Hh
  isplitl [Hp]; · iexact Hp
  isplitl [Hl Hc]
  · isplitl [Hl]
    · iexists κ
      isplitr; · iexact HR
      iexact Hl
    iexact Hc
  iexists ∅; iexact HO

variable (ρ : Dev nD → PrngReg)

/-- From all the launch holdings, every core's first state: barriers funded with their counters, the other cells left dormant. -/
theorem start_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(plain m c ∗ (semVal (barC c) 0 ∗ parked c)) : sProp 𝕄) := by
    rw [show unscopedBufs c (fun b => m ((c : Thread nD τ).loc b)) = StableHlo.held (c : Thread nD τ) (Pipeline.ucRefs τ sig) (V0 m c) from
      Pipeline.unscopedBufs_held c (V0 m c), unscoped_sems]
    unfold plain
    iintro ⟨Hh, Hs, HO, Hcr, Hp, HG⟩
    ihave Hc := (creds_dealt c) $$ Hcr
    isplitl [Hh Hc HO Hp]
    · isplitl [Hh]; · iexact Hh
      isplitl [Hc]; · iexact Hc
      isplitl [HO]; · iexact HO
      iexists (ρ c); iexact Hp
    isplitl [Hs] <;> iassumption
  have hv : bigSep Finset.univ (fun c : Dev nD => (semVal (barC c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    BIBase.Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Sc => (openTok ER (scC c k) : sProp 𝕄)) :=
    BIBase.Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop((bigSep Finset.univ fun c : Dev nD => plain m c) ∗ ((bigSep Finset.univ fun c : Dev nD => semVal (barC c) 0) ∗ bigSep Finset.univ fun c : Dev nD => parked c)) : sProp 𝕄) from by
    rw [← bigSep_sep', ← bigSep_sep']; exact bigSep_mono fun c _ => hcore c) $$ H
  icases H with ⟨HB, Hv, HG⟩
  ihave Hu := (BIBase.Entails.of_eq (parked_all (F := F))) $$ HG
  imod (Rounds.fund_launch ER (Rd (sumsOf m)) cells_disjoint (fun g _ h => h) dues) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ plain m c)) fun c _ => T₀_intro m κ c)
  isplitr
  · unfold records
    isplitr; · iexact Hinv
    iexact Hr
  rw [bigSep_sep']
  isplitr [HB]
  · unfold linear
    rw [bigSep_sep', bigSep_sep']
    isplitl [Hat]; · iapply hat $$ Hat
    isplitl [Hopen]; · iapply hopen $$ Hopen
    iapply (toks_dealt (F := F))
    iapply (dues_split (F := F)) $$ Htok
  · iexact HB

/-- What the second region leaves is the last state, with nothing owed. -/
theorem last_state (c : Dev nD) : iprop(StableHlo.held (c : Thread nD τ) (Pipeline.ucRefs τ sig) (U3 m c) ∗ rides m 2 c)
    ⊢ (iprop(Tₙ m c ∗ ∃ W, owes (c : Thread nD τ) (0 : CellTallies nD τ sig Bool) W) : sProp 𝕄) := by
  rw [show rides m 2 c = rideB c from rfl]
  unfold rideB
  iintro ⟨Hh, -, Hy, HO⟩
  isplitr [HO]
  · isplitl [Hh] <;> iassumption
  · iexact HO

/-- A buffer that is not scoped is among the unscoped ones. -/
theorem mem_uc (b : Ref sig .tc) (h : ¬ (Proc.devRef (τ := τ) .tc b).isScoped = true := by decide) : Proc.devRef .tc b ∈ Pipeline.ucRefs τ sig :=
  Finset.mem_filter.mpr ⟨StableHlo.devRef_mem_tcRefs b, h⟩

set_option backward.isDefEq.respectTransparency.types false in
/-- From any memory with zero counters every weakly fair run on the four devices ends, with each device's arguments as launched, its columns
    of the result as the two kernels compute them from the four devices' columns, and every semaphore counter at zero. -/
theorem run_main : θ_run defs (onTc (τ := τ) (main (F := F))) ⟨m, fun _ => 0, ρ⟩
    (fun r => (∀ c : Dev nD, r.2.mem ((c : Thread nD τ).loc main_v3) = outOf m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_dev_sems (pcfgs (F := F)) adm (pdats m) false cellOf_inj EP defs₀ Variants.none L lv m ρ main
    (segs m Variants.none L lv (rides m) false (pdats m) (reg0 m) (reg1 m))
    (fun c Q => by
      rewrite [main_chain c, Seg.run_eq_chain,
        show (segs m Variants.none L lv (rides m) false (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, pre0 m c, (post0 m c).trans (pre1 m c), (post1 m c).trans (last_state m c)⟩)
    (hinit := start_all m ρ)
    (QY := fun c s => (∀ b ∈ Pipeline.ucRefs τ sig, s.mem ((c : Thread nD τ).1, b) = U3 m c b) ∧ s.sem (barC c) = 0)
    (hfin := fun c s' => by
      unfold Tₙ Yk StableHlo.held
      iintro ⟨⟨Hh, Hb⟩, HSI⟩
      ihave Hr := (pointsTo_read_all (Pipeline.ucRefs τ sig) (fun b => ((c : Thread nD τ).1, b)) (U3 m c) s') $$ [Hh HSI]
      · isplitl [Hh] <;> iassumption
      icases Hr with ⟨%h, HSI⟩
      icombine HSI Hb gives %hb
      imodintro
      isplitr
      · ipureintro
        exact ⟨h, by simpa using hb⟩
      iexact HSI)
    (hQ := fun s h hs => ⟨fun c =>
        ⟨((h c).1 (Proc.devRef .tc main_v3) (mem_uc main_v3)).trans (U3_v3 m c),
          ((h c).1 (Proc.devRef .tc main_arg0) (mem_uc main_arg0)).trans (V3_main_arg0 m (left m) c),
          ((h c).1 (Proc.devRef .tc main_arg1) (mem_uc main_arg1)).trans (V3_main_arg1 m (left m) c)⟩,
      sem_eq_zero hs fun c sm hsm => by
        obtain rfl := unscoped_only sm hsm
        exact (h c).2⟩)

/-- The same run, the result's value dropped: the arguments end as launched, every counter at zero. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

end Cert.Proof.Norm
-- ==== Proof.Value.lean ====
module

public import proofs.«01_k».proof.Proof.Regions
public import Idealize.ShloMosaic.PureOps.Ideal.Laws
public import Idealize.ShloMosaic.Lib.IdealHost
public import Idealize.ShloMosaic.Lib.MatmulPlain
public import Idealize.ShloMosaic.Lib.ValueIdx
public import Idealize.ShloMosaic.Lib.ValueIdxRank1
public import Idealize.ShloMosaic.Lib.ValueLayout
public import Idealize.ShloMosaic.Lib.Layout
public import Idealize.ShloMosaic.Lib.Pipeline.Value

@[expose] public section

noncomputable section

namespace Cert.Proof.Norm

open Cert.KernelIdeal Cert.KernelIdeal.Gen
open Idealize.ShloMosaic hiding ix1 ix2 truncf_apply
open Idealize.ShloMosaic.ValueIdx
open Idealize.ShloMosaic.TcCoe

/-! ## The norm's arithmetic over the extended reals -/

/-- The reciprocal of a whole row's length, as an extended real. -/
theorem recip_val : Ideal.ofBits .f32 0x39000000#32 = (((8192 : ℝ)⁻¹ : ℝ) : EReal) := by
  simp [Ideal.ofBits, Ideal.ieee]; rw [← EReal.coe_mul]; norm_num
/-- The length of a whole row, as an extended real. -/
theorem len_val : Ideal.ofBits .f32 0x46000000#32 = ((8192 : ℝ) : EReal) := by
  simp [Ideal.ofBits, Ideal.ieee]; rw [← EReal.coe_mul]; norm_num
/-- The offset is a positive real. -/
theorem eps_val : ∃ e : ℝ, 0 < e ∧ Ideal.ofBits .f32 0x3727C5AC#32 = (e : EReal) := by
  refine ⟨_, ?_, by simp [Ideal.ofBits, Ideal.ieee]; rfl⟩
  positivity

/-- A square is never below zero, at the infinities too. -/
theorem sq_nonneg_ereal (x : EReal) : 0 ≤ x * x := by
  induction x with
  | bot => simp
  | top => simp
  | coe r => rw [← EReal.coe_mul]; exact EReal.coe_nonneg.mpr (mul_self_nonneg r)

/-- Multiplying by the inverse root of the mean plus the offset is dividing by the root, for a sum of squares that may be infinite. -/
theorem norm_arith (y S : EReal) (hS : 0 ≤ S) :
    y * Ideal.rsqrt (S * Ideal.ofBits .f32 0x39000000#32 + Ideal.ofBits .f32 0x3727C5AC#32)
      = Ideal.div y (Ideal.sqrt (Ideal.div S (Ideal.ofBits .f32 0x46000000#32) + Ideal.ofBits .f32 0x3727C5AC#32)) := by
  obtain ⟨e, he, hE⟩ := eps_val
  rw [recip_val, len_val, hE]
  have hd : Ideal.div S ((8192 : ℝ) : EReal) = S * (((8192 : ℝ)⁻¹ : ℝ) : EReal) := by
    unfold Ideal.div
    rw [if_neg (by exact_mod_cast (by norm_num : (8192 : ℝ) ≠ 0)), EReal.coe_inv]
  rw [hd]
  induction S with
  | bot => exact absurd hS (by simp)
  | top =>
    rw [EReal.top_mul_coe_of_pos (by norm_num), EReal.top_add_coe]
    show y * 0 = Ideal.div y ⊤
    unfold Ideal.div; rw [if_neg (by simp), EReal.inv_top]
  | coe s =>
    have hs : 0 ≤ s := EReal.coe_nonneg.mp hS
    rw [← EReal.coe_mul, ← EReal.coe_add]
    have ht : 0 < s * (8192 : ℝ)⁻¹ + e := by positivity
    generalize s * (8192 : ℝ)⁻¹ + e = t at ht
    show y * (if t < 0 then ⊥ else if t = 0 then ⊤ else (((Real.sqrt t)⁻¹ : ℝ) : EReal)) = Ideal.div y (if t < 0 then ⊥ else (Real.sqrt t : EReal))
    rw [if_neg ht.le.not_gt, if_neg ht.ne', if_neg ht.le.not_gt]
    unfold Ideal.div
    rw [if_neg (by exact_mod_cast (Real.sqrt_pos.mpr ht).ne'), EReal.coe_inv]

/-! ## The kernels' values at an index -/

section Payloads

variable (X : S6144x2048.Idx → EReal)

/-- A slot's one block, read back, is the block. -/
theorem shapeCast_slotV {α : Type} (x : S1024x2048.Idx → α) (h : S1x1024x2048.ShapeCasts S1024x2048) : shapeCast S1024x2048 (slotV x) h = x := by
  funext y; unfold shapeCast slotV; rw [Shape.reshapeEquiv_reshapeEquiv, Shape.reshapeEquiv_self]
/-- A buffer's one row, read back, is the row. -/
theorem shapeCast_rowV {α : Type} (x : S1x2048.Idx → α) (h : S1x1x2048.ShapeCasts S1x2048) : shapeCast S1x2048 (rowV x) h = x := by
  funext y; unfold shapeCast rowV; rw [Shape.reshapeEquiv_reshapeEquiv, Shape.reshapeEquiv_self]
/-- A block put in a slot and taken out again is the block. -/
theorem unslot_shapeCast {α : Type} (x : S1024x2048.Idx → α) (h : S1024x2048.ShapeCasts S1x1024x2048) : unslot (shapeCast S1x1024x2048 x h) = x := by
  funext y; unfold unslot shapeCast; show x _ = _; rw [Shape.reshapeEquiv_reshapeEquiv, Shape.reshapeEquiv_self]

/-- Row `r`'s sum of squares over one device's columns. -/
def sq (r : Fin 6144) : EReal := ∑ k : Fin 2048, X (ix2 r k) * X (ix2 r k)

/-- Six blocks of rows put together, at a row: the row's block at the row inside it. -/
theorem stack_apply {α : Type} (Y : Fin 6 → S1024x2048.Idx → α) (r : Fin 6144) (j : Fin 2048) :
    stack Y (ix2 r j) = Y ⟨r.val / 1024, by omega⟩ (ix2 ⟨r.val % 1024, Nat.mod_lt _ (by decide)⟩ j) := rfl
/-- The block of a row, at the row inside it, is the array at the row. -/
theorem xb_apply {α : Type} (Y : S6144x2048.Idx → α) (r : Fin 6144) (j : Fin 2048) :
    xb Y ⟨r.val / 1024, by omega⟩ (ix2 ⟨r.val % 1024, Nat.mod_lt _ (by decide)⟩ j) = Y (ix2 r j) := by
  unfold xb
  refine congrArg (fun a => Y (ix2 a j)) (Fin.ext ?_)
  show 1024 * (r.val / 1024) + r.val % 1024 = r.val; omega

/-- A block's row sums at a row: the row's sum of squares. -/
theorem rowSums_apply (i : Fin 6) (a : Fin 1024) (z : Fin 1) :
    rowSums (F := Ideal) X i (ix2 a z) = ∑ k : Fin 2048, xb X i (ix2 a k) * xb X i (ix2 a k) := by
  unfold rowSums k0_pay4 k0_pay3
  rw [shapeCast_self, shapeCast_slotV, shapeCast_apply (k := ix1 a)]
  · exact (Ideal.multiReduction_add_single _ _ _ _ _ (ix1 a)).trans rfl
  · rw [Shape.rowMajor_val_one, Shape.rowMajor_val_two]
    show a.val = a.val * 1 + z.val; omega

/-- The column of all row sums, at a row. -/
theorem col_apply (r : Fin 6144) (z : Fin 1) : col (rowSums (F := Ideal) X) (ix2 r z) = sq X r := by
  show rowSums (F := Ideal) X ⟨r.val / 1024, by omega⟩ (ix2 ⟨r.val % 1024, Nat.mod_lt _ (by decide)⟩ z) = _
  rw [rowSums_apply]; unfold sq
  exact Finset.sum_congr rfl fun k _ => by rw [xb_apply]

/-- The one the sums are multiplied by to turn the column into a row. -/
theorem one_val (i : S1x1.Idx) : k0_pay1 (F := Ideal) i = 1 := Ideal.ofBits_one_f32

/-- A chunk of the sums sent to the other devices, at an entry: the sum of squares of the entry's row. -/
theorem chunkSums_apply (ch : Fin 3) (z : Fin 1) (j : Fin 2048) :
    chunkSums (F := Ideal) X ch (ix2 z j) = sq X ⟨2048 * ch.val + j.val, by omega⟩ := by
  unfold chunkSums k0_pay9
  rw [shapeCast_self]
  show FloatOps.matmul (DotDims.transposedRhs 1 1 2048) none _ _ _ (ix2 z j) = _
  rw [Ideal.matmul_transposedRhs_apply, Fin.sum_univ_one, one_val, one_mul, constant_apply, Ideal.ofBits_zero_f32, zero_add]
  exact col_apply X _ _

/-- The staged product at an index: the weight of the column times the entry. -/
theorem scaled_apply (G : S1x2048.Idx → EReal) (r : Fin 6144) (j : Fin 2048) :
    scaled (F := Ideal) G X (ix2 r j) = G (ix2 0 j) * X (ix2 r j) := by
  unfold scaled
  rw [stack_apply]
  unfold k0_pay5 k0_pay3 k0_pay2
  rw [unslot_shapeCast, shapeCast_self, shapeCast_slotV, truncf_apply, mulf_apply, xb_apply]
  rw [broadcastTo_apply (k := ix2 0 j)]
  intro a; fin_cases a <;> rfl

/-- The row of inverse roots at an entry, from the four devices' sums of that row. -/
theorem invs_apply (s0 s1 s2 s3 : Fin 3 → S1x2048.Idx → EReal) (T : Fin 4 → Fin 6144 → EReal)
    (h0 : ∀ ch z j, s0 ch (ix2 z j) = T 0 ⟨2048 * ch.val + j.val, by omega⟩) (h1 : ∀ ch z j, s1 ch (ix2 z j) = T 1 ⟨2048 * ch.val + j.val, by omega⟩)
    (h2 : ∀ ch z j, s2 ch (ix2 z j) = T 2 ⟨2048 * ch.val + j.val, by omega⟩) (h3 : ∀ ch z j, s3 ch (ix2 z j) = T 3 ⟨2048 * ch.val + j.val, by omega⟩)
    (z : Fin 1) (r : Fin 6144) :
    invs (F := Ideal) s0 s1 s2 s3 (ix2 z r)
      = Ideal.rsqrt ((T 0 r + T 1 r + T 2 r + T 3 r) * Ideal.ofBits .f32 0x39000000#32 + Ideal.ofBits .f32 0x3727C5AC#32) := by
  have hr : (⟨2048 * (r.val / 2048) + r.val % 2048, by omega⟩ : Fin 6144) = r := Fin.ext (by show 2048 * (r.val / 2048) + r.val % 2048 = r.val; omega)
  show k0_pay26 (F := Ideal) (s0 ⟨r.val / 2048, by omega⟩) (rowV (s1 ⟨r.val / 2048, by omega⟩)) (rowV (s2 ⟨r.val / 2048, by omega⟩))
    (rowV (s3 ⟨r.val / 2048, by omega⟩)) (ix2 z ⟨r.val % 2048, Nat.mod_lt _ (by decide)⟩) = _
  unfold k0_pay26
  rw [shapeCast_rowV, shapeCast_rowV, shapeCast_rowV]
  show Ideal.rsqrt ((s0 _ _ + s1 _ _ + s2 _ _ + s3 _ _) * Ideal.ofBits .f32 0x39000000#32 + Ideal.ofBits .f32 0x3727C5AC#32) = _
  rw [h0, h1, h2, h3]
  simp only [hr]

/-- The row of inverse roots turned into a column, at a row. -/
theorem colOf_apply (V : S1x6144.Idx → EReal) (r : Fin 6144) (z : Fin 1) : k1_pay2 (F := Ideal) V (ix2 r z) = V (ix2 0 r) := by
  unfold k1_pay2
  rw [shapeCast_self, shapeCast_self]
  show FloatOps.matmul dot_S1x6144_S1x1_S6144x1_0_0_1_1_n_n none _ _ (constant S6144x1 .f32 0x00000000#32) (ix2 r z) = _
  rw [Ideal.matmul_constant_zero_apply, ← Equiv.sum_comp (contrEquiv1 dot_S1x6144_S1x1_S6144x1_0_0_1_1_n_n 1 rfl rfl).symm, Fin.sum_univ_one]
  show V _ * Ideal.ofBits .f32 0x3F800000#32 = _
  rw [Ideal.ofBits_one_f32, mul_one]
  refine congrArg V (funext fun a => Fin.ext ?_)
  fin_cases a
  · exact Nat.lt_one_iff.mp (Fin.isLt _)
  · rfl

/-- The second region's result at an index: the staged entry times its row's inverse root. -/
theorem outs_apply (V : S1x6144.Idx → EReal) (r : Fin 6144) (j : Fin 2048) :
    outs (F := Ideal) V X (ix2 r j) = X (ix2 r j) * V (ix2 0 r) := by
  unfold outs
  rw [stack_apply]
  unfold k1_pay3
  rw [unslot_shapeCast, shapeCast_slotV, mulf_apply, xb_apply]
  rw [broadcastTo_apply (k := ix2 ⟨r.val % 1024, Nat.mod_lt _ (by decide)⟩ 0)]
  · rw [truncf_apply]
    show _ * k1_pay2 (F := Ideal) V (ix2 ⟨1024 * (r.val / 1024) + r.val % 1024, _⟩ 0) = _
    rw [colOf_apply]
    refine congrArg (fun a => X (ix2 r j) * V (ix2 0 a)) (Fin.ext ?_)
    show 1024 * (r.val / 1024) + r.val % 1024 = r.val; omega
  · intro a; fin_cases a <;> rfl

end Payloads

/-! ## A device's columns of the result -/

variable (m : (ℓ : Loc nD τ sig) → Buf (Elt Ideal) ℓ)

/-- The four devices' sums, in the order in which device `c` adds them. -/
theorem around {M : Type} [AddCommMonoid M] (f : Dev nD → M) (c : Dev nD) : f c + f (nx c 2) + f (nx c 1) + f (nx c 0) = ∑ d : Dev nD, f d := by
  rw [show (∑ d : Dev nD, f d) = f 0 + f 1 + f 2 + f 3 from Fin.sum_univ_four f]
  fin_cases c
  · show f 0 + f 3 + f 2 + f 1 = _; abel
  · show f 1 + f 0 + f 3 + f 2 = _; abel
  · show f 2 + f 1 + f 0 + f 3 = _; abel
  · show f 3 + f 2 + f 1 + f 0 = _; abel

/-- A row's sum of squares is not below zero. -/
theorem sq_nonneg' (X : S6144x2048.Idx → EReal) (r : Fin 6144) : 0 ≤ sq X r := Finset.sum_nonneg fun k _ => sq_nonneg_ereal _

/-- A device's result at an index: its weighted entry over the root of the mean square of the row over all devices, plus the offset. -/
theorem outOf_apply (c : Dev nD) (r : Fin 6144) (j : Fin 2048) :
    outOf m c (ix2 r j) = Ideal.div (gOf m c (ix2 0 j) * xOf m c (ix2 r j))
      (Ideal.sqrt (Ideal.div (∑ d : Dev nD, sq (xOf m d) r) (Ideal.ofBits .f32 0x46000000#32) + Ideal.ofBits .f32 0x3727C5AC#32)) := by
  unfold outOf
  rw [outs_apply]
  unfold scOf invOf
  rw [scaled_apply]
  rw [invs_apply (s0 := sumsOf m c) (s1 := sumsOf m (nx c 2)) (s2 := sumsOf m (nx c 1)) (s3 := sumsOf m (nx c 0)) (T := ![sq (xOf m c), sq (xOf m (nx c 2)), sq (xOf m (nx c 1)), sq (xOf m (nx c 0))])
    (h0 := fun ch z j => chunkSums_apply _ ch z j) (h1 := fun ch z j => chunkSums_apply _ ch z j)
    (h2 := fun ch z j => chunkSums_apply _ ch z j) (h3 := fun ch z j => chunkSums_apply _ ch z j)]
  show _ * Ideal.rsqrt ((sq (xOf m c) r + sq (xOf m (nx c 2)) r + sq (xOf m (nx c 1)) r + sq (xOf m (nx c 0)) r) * _ + _) = _
  rw [around (fun d => sq (xOf m d) r) c]
  exact norm_arith _ _ (Finset.sum_nonneg fun d _ => sq_nonneg' _ r)

/-- The array the kernels read is the device's first argument. -/
theorem xOf_eq (c : Dev nD) : xOf m c = m ((c : Thread nD τ).loc main_arg0) := V1_of m c main_arg0 (by decide)
/-- The row of weights the kernels read is the device's second argument. -/
theorem gOf_apply (c : Dev nD) (j : Fin 2048) : gOf m c (ix2 0 j) = m ((c : Thread nD τ).loc main_arg1) (ix1 j) := by
  have h : gOf m c = shapeCast S1x2048 (m ((c : Thread nD τ).loc main_arg1)) shapeCasts_S2048_S1x2048 := by
    show StableHlo.after hostOps0 (V0 m c) main_v1 = _
    after_results
    rfl
  rw [h, shapeCast_apply (k := ix1 j)]
  rw [Shape.rowMajor_val_one, Shape.rowMajor_val_two]
  show j.val = 0 * 2048 + j.val; omega

end Cert.Proof.Norm
-- ==== Proof.Algebra.lean ====
module

public import proofs.«01_k».proof.Defs
public import proofs.«01_k».proof.Proof.Value
public import proofs.«01_k».proof.Proof.Launch
public import proofs.«01_k».proof.Proof.Gen.ReferenceIdeal.Run

@[expose] public section

noncomputable section

namespace Cert.Proof.Norm

open Idealize.ShloMosaic hiding ix1 ix2 eq_ix2 truncf_apply
open Idealize.ShloMosaic.ValueIdx
open Idealize.ShloMosaic.TcCoe
open Idealize.SL.Sem

/-! ## The reference's result at an index -/

section Ref

open Cert.ReferenceIdeal Cert.ReferenceIdeal.Gen

/-- The reference's result as a function of its two arguments. -/
def refOut (X : FVec Ideal S6144x8192 .f32) (G : FVec Ideal S8192 .f32) : FVec Ideal S6144x8192 .bf16 :=
  truncf .bf16 (Host.divf (mulf (broadcastInDim S6144x8192 ![0, 1] bcast_S1x8192_S6144x8192_0_1 (broadcastInDim S1x8192 ![1] bcast_S8192_S1x8192_1 G)) X)
    (broadcastInDim S6144x8192 ![0, 1] bcast_S6144x1_S6144x8192_0_1 (Host.sqrt (addf (Host.divf
      (broadcastInDim S6144x1 ![0] bcast_S6144_S6144x1_0 (Host.reduceAdd (mulf X X) (constant S_ .f32 0x00000000#32) reducesTo_S6144x8192_S6144_d1 h_S_))
      (broadcastInDim S6144x1 ![] bcast_S_S6144x1 (constant S_ .f32 0x46000000#32))) (broadcastInDim S6144x1 ![] bcast_S_S6144x1 (constant S_ .f32 0x3727C5AC#32)))))) bitsLt_bf16_f32

/-- The reference's sum of squares at a row. -/
theorem rowSum_apply (X : FVec Ideal S6144x8192 .f32) (r : Fin 6144) :
    Host.reduceAdd (mulf X X) (constant S_ .f32 0x00000000#32) reducesTo_S6144x8192_S6144_d1 h_S_ (ix1 r) = ∑ k : Fin 8192, X (ix2 r k) * X (ix2 r k) := by
  have hr : S6144x8192.Reduces [1] S6144 := by decide
  rw [hostReduceAdd_apply, Ideal.hostReduceAdd_single _ hr, constant_apply, Ideal.ofBits_zero_f32, zero_add]
  refine Finset.sum_congr rfl fun k _ => ?_
  have hk : hr.lift (ix1 r) k = ix2 r k := by funext a; fin_cases a <;> rfl
  rw [mulf_apply, hk]; rfl

/-- The reference at row `r`, column `j`: the weighted entry over the root of the row's mean square plus the offset. -/
theorem refOut_apply (X : FVec Ideal S6144x8192 .f32) (G : FVec Ideal S8192 .f32) (r : Fin 6144) (j : Fin 8192) :
    refOut X G (ix2 r j) = Ideal.div (G (ix1 j) * X (ix2 r j))
      (Ideal.sqrt (Ideal.div (∑ k : Fin 8192, X (ix2 r k) * X (ix2 r k)) (Ideal.ofBits .f32 0x46000000#32) + Ideal.ofBits .f32 0x3727C5AC#32)) := by
  unfold refOut
  rw [truncf_apply, hostDivf_apply, mulf_apply]
  rw [broadcastInDim_apply (k := ix2 0 j) (hk := by intro a; fin_cases a <;> rfl), broadcastInDim_apply (k := ix1 j) (hk := by intro a; fin_cases a; rfl)]
  rw [broadcastInDim_apply (k := ix2 r 0) (hk := by intro a; fin_cases a <;> rfl)]
  refine congrArg (Ideal.div (G (ix1 j) * X (ix2 r j))) (congrArg Ideal.sqrt ?_)
  rw [addf_apply, hostDivf_apply, broadcastInDim_scalar_apply, broadcastInDim_scalar_apply, constant_apply, constant_apply]
  refine congrArg (fun t => Ideal.div t (Ideal.ofBits .f32 0x46000000#32) + Ideal.ofBits .f32 0x3727C5AC#32) ?_
  rw [broadcastInDim_apply (k := ix1 r) (hk := by intro a; fin_cases a; rfl)]
  exact rowSum_apply X r

end Ref

/-- A row's sum over all the columns is the sum of the devices' sums over their own. -/
theorem sum_split {M : Type} [AddCommMonoid M] (f : Fin 8192 → M) :
    ∑ k : Fin 8192, f k = ∑ d : Fin 4, ∑ l : Fin 2048, f ⟨d.val * 2048 + l.val, by omega⟩ := by
  rw [← Fintype.sum_prod_type' fun (d : Fin 4) (l : Fin 2048) => f ⟨d.val * 2048 + l.val, by omega⟩]
  exact (Fintype.sum_equiv (finProdFinEquiv (m := 4) (n := 2048)) _ _ fun p => congrArg f (Fin.ext (by
    show p.1.val * 2048 + p.2.val = p.2.val + 2048 * p.1.val; omega))).symm

open Cert.KernelIdeal in
/-- A device's result is its block of columns of the reference's, when its arguments are its blocks of the reference's. -/
theorem outOf_eq (m : (ℓ : Loc nD τ sig) → Buf (Elt Ideal) ℓ) (X : (⟨2, ![6144, 8192]⟩ : Shape).Idx → EReal) (G : (⟨1, ![8192]⟩ : Shape).Idx → EReal)
    (h2 : Layout.Tiles ⟨2, ![6144, 2048]⟩ ⟨2, ![6144, 8192]⟩ 1 4) (h1 : Layout.Tiles ⟨1, ![2048]⟩ ⟨1, ![8192]⟩ 0 4)
    (h : ∀ c : Dev nD, m ((c : Thread nD τ).loc main_arg0) = Layout.block ⟨2, ![6144, 2048]⟩ ⟨2, ![6144, 8192]⟩ 1 4 c X h2
      ∧ m ((c : Thread nD τ).loc main_arg1) = Layout.block ⟨1, ![2048]⟩ ⟨1, ![8192]⟩ 0 4 c G h1) (c : Dev nD) :
    outOf m c = Layout.block ⟨2, ![6144, 2048]⟩ ⟨2, ![6144, 8192]⟩ 1 4 c (refOut X G) h2 := by
  have hx : ∀ (d : Dev nD) (r : Fin 6144) (j : Fin 2048), xOf m d (ix2 r j) = X (ix2 r ⟨d.val * 2048 + j.val, by have : d.val < 4 := d.isLt; omega⟩) := by
    intro d r j
    rw [xOf_eq, (h d).1, Layout.block_apply]
    refine congrArg X (funext fun a => Fin.ext ?_)
    fin_cases a <;> rfl
  have hg : ∀ (d : Dev nD) (j : Fin 2048), gOf m d (ix2 0 j) = G (ix1 ⟨d.val * 2048 + j.val, by have : d.val < 4 := d.isLt; omega⟩) := by
    intro d j
    rw [gOf_apply, (h d).2, Layout.block_apply]
    refine congrArg G (funext fun a => Fin.ext ?_)
    fin_cases a; rfl
  funext i
  obtain ⟨r, j, rfl⟩ : ∃ (r : Fin 6144) (j : Fin 2048), i = ix2 r j := ⟨i 0, i 1, eq_ix2 i⟩
  rw [outOf_apply, Layout.block_apply]
  have hi : h2.idx c (ix2 r j) = ix2 r ⟨c.val * 2048 + j.val, by have : c.val < 4 := c.isLt; omega⟩ := by
    refine funext fun a => Fin.ext ?_
    fin_cases a <;> rfl
  rw [hi, refOut_apply, hx, hg, sum_split]
  simp only [sq, hx]

/-- Over the extended reals the kernel's result, its devices' blocks put together, is the reference's. -/
theorem algebraic : Cert.algebraic_KernelIdeal_ReferenceIdeal := by
  intro m g m' g' _ h
  refine ⟨refOut (m' ((0 : Dev Cert.ReferenceIdeal.nD).tc.loc Cert.ReferenceIdeal.main_arg0)) (m' ((0 : Dev Cert.ReferenceIdeal.nD).tc.loc Cert.ReferenceIdeal.main_arg1)), ?_, ?_⟩
  · refine (θ_run Cert.KernelIdeal.defs _ _).mono (fun r hr c => ?_) (run_main m g)
    exact ⟨(hr.1 c).1.trans (outOf_eq m _ _ _ _ h c), (hr.1 c).2⟩
  · exact (θ_run Cert.ReferenceIdeal.defs _ _).mono (fun r hr => hr 0) (Cert.ReferenceIdeal.Value.run m' g')

end Cert.Proof.Norm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

set_option smartUnfolding false in
/-- The kernel as printed runs, its arguments unchanged, every counter at zero: its program is the idealized one, read at bits. -/
theorem frame_kernel : Cert.quiescent_Kernel := fun m ρ _ => Norm.run_frame (F := Bits) m ρ

/-- The idealized kernel runs, its arguments unchanged, every counter at zero. -/
theorem frame_ideal : Cert.quiescent_KernelIdeal := fun m ρ _ => Norm.run_frame m ρ

/-- The reference runs, its arguments unchanged; it has no semaphores. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

theorem claim : Cert.Claim := ⟨Cert.Kernel.Gen.facts, Cert.KernelIdeal.Gen.facts, Cert.ReferenceIdeal.Gen.facts,
  frame_kernel, frame_ideal, frame_reference, trivial, Norm.algebraic⟩

end Cert.Proof

end
